-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S4096 : Shape := ⟨1, ![4096]⟩
abbrev S4096x1 : Shape := ⟨2, ![4096, 1]⟩
abbrev S1x1 : Shape := ⟨2, ![1, 1]⟩
abbrev S4x256x4096 : Shape := ⟨3, ![4, 256, 4096]⟩
abbrev S4 : Shape := ⟨1, ![4]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S256x1 : Shape := ⟨2, ![256, 1]⟩
abbrev S1x256x1 : Shape := ⟨3, ![1, 256, 1]⟩
abbrev S1x1x1 : Shape := ⟨3, ![1, 1, 1]⟩
abbrev S1x4096x1 : Shape := ⟨3, ![1, 4096, 1]⟩

abbrev nBuf : Space → Nat
  | .hbm => 14
  | .vmem => 5
  | .smem => 2
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S1x1, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4x256x4096, .f32⟩
  | .local _ .vmem, ⟨4, _⟩ => ⟨S4096x1, .f32⟩
  | .local _ .smem, ⟨0, _⟩ => ⟨S1x1, .f32⟩
  | .local _ .smem, ⟨1, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 : BitVec 1 :=
  let c0_i32_17 : BitVec 32 := 0#32
  let c16_i32_18 : BitVec 32 := 16#32
  let v30 : BitVec 1 := Scalar.cmpi .slt c0_i32_17 c16_i32_18
  let v31 : BitVec 32 := Scalar.extui v30
  let c0_i32_21 : BitVec 32 := 0#32
  let v32 : BitVec 1 := Scalar.cmpi .ne v31 c0_i32_21
  v32

def k0_off1 : Fin 2 → Nat :=
  let c0_i32_19 : BitVec 32 := 0#32
  let c256_i32_52 : BitVec 32 := 256#32
  let v54 : BitVec 32 := Scalar.muli c0_i32_19 c256_i32_52
  let c0_i32_55 : BitVec 32 := 0#32
  ![v54.toNat, 0]
def k0_cond3 : BitVec 1 :=
  let c0_i32_22 : BitVec 32 := 0#32
  let c16_i32_23 : BitVec 32 := 16#32
  let v33 : BitVec 1 := Scalar.cmpi .sge c0_i32_22 c16_i32_23
  let c0_i32_24 : BitVec 32 := 0#32
  let c32_i32_25 : BitVec 32 := 32#32
  let v34 : BitVec 1 := Scalar.cmpi .slt c0_i32_24 c32_i32_25
  let v35 : BitVec 1 := Scalar.andi v33 v34
  let v36 : BitVec 32 := Scalar.extui v35
  let c0_i32_28 : BitVec 32 := 0#32
  let v37 : BitVec 1 := Scalar.cmpi .ne v36 c0_i32_28
  v37

def k0_off2 : Fin 2 → Nat :=
  let c0_i32_26 : BitVec 32 := 0#32
  let c16_i32_52 : BitVec 32 := 16#32
  let v54 : BitVec 32 := Scalar.subi c0_i32_26 c16_i32_52
  let c256_i32_53 : BitVec 32 := 256#32
  let v55 : BitVec 32 := Scalar.muli v54 c256_i32_53
  let c0_i32_56 : BitVec 32 := 0#32
  ![v55.toNat, 0]
def k0_cond4 : BitVec 1 :=
  let c1_i32_29 : BitVec 32 := 1#32
  let c16_i32_30 : BitVec 32 := 16#32
  let v38 : BitVec 1 := Scalar.cmpi .slt c1_i32_29 c16_i32_30
  let v39 : BitVec 32 := Scalar.extui v38
  let c0_i32_33 : BitVec 32 := 0#32
  let v40 : BitVec 1 := Scalar.cmpi .ne v39 c0_i32_33
  v40

def k0_off3 : Fin 2 → Nat :=
  let c1_i32_31 : BitVec 32 := 1#32
  let c256_i32_52 : BitVec 32 := 256#32
  let v54 : BitVec 32 := Scalar.muli c1_i32_31 c256_i32_52
  let c0_i32_55 : BitVec 32 := 0#32
  ![v54.toNat, 0]
def k0_cond5 : BitVec 1 :=
  let c1_i32_34 : BitVec 32 := 1#32
  let c16_i32_35 : BitVec 32 := 16#32
  let v41 : BitVec 1 := Scalar.cmpi .sge c1_i32_34 c16_i32_35
  let c1_i32_36 : BitVec 32 := 1#32
  let c32_i32_37 : BitVec 32 := 32#32
  let v42 : BitVec 1 := Scalar.cmpi .slt c1_i32_36 c32_i32_37
  let v43 : BitVec 1 := Scalar.andi v41 v42
  let v44 : BitVec 32 := Scalar.extui v43
  let c0_i32_40 : BitVec 32 := 0#32
  let v45 : BitVec 1 := Scalar.cmpi .ne v44 c0_i32_40
  v45

def k0_off4 : Fin 2 → Nat :=
  let c1_i32_38 : BitVec 32 := 1#32
  let c16_i32_52 : BitVec 32 := 16#32
  let v54 : BitVec 32 := Scalar.subi c1_i32_38 c16_i32_52
  let c256_i32_53 : BitVec 32 := 256#32
  let v55 : BitVec 32 := Scalar.muli v54 c256_i32_53
  let c0_i32_56 : BitVec 32 := 0#32
  ![v55.toNat, 0]
def k0_cond6 : BitVec 1 :=
  let c2_i32 : BitVec 32 := 2#32
  let c16_i32_41 : BitVec 32 := 16#32
  let v46 : BitVec 1 := Scalar.cmpi .slt c2_i32 c16_i32_41
  let v47 : BitVec 32 := Scalar.extui v46
  let c0_i32_44 : BitVec 32 := 0#32
  let v48 : BitVec 1 := Scalar.cmpi .ne v47 c0_i32_44
  v48

def k0_off5 : Fin 2 → Nat :=
  let c2_i32_42 : BitVec 32 := 2#32
  let c256_i32_52 : BitVec 32 := 256#32
  let v54 : BitVec 32 := Scalar.muli c2_i32_42 c256_i32_52
  let c0_i32_55 : BitVec 32 := 0#32
  ![v54.toNat, 0]
def k0_cond7 : BitVec 1 :=
  let c2_i32_45 : BitVec 32 := 2#32
  let c16_i32_46 : BitVec 32 := 16#32
  let v49 : BitVec 1 := Scalar.cmpi .sge c2_i32_45 c16_i32_46
  let c2_i32_47 : BitVec 32 := 2#32
  let c32_i32_48 : BitVec 32 := 32#32
  let v50 : BitVec 1 := Scalar.cmpi .slt c2_i32_47 c32_i32_48
  let v51 : BitVec 1 := Scalar.andi v49 v50
  let v52 : BitVec 32 := Scalar.extui v51
  let c0_i32_51 : BitVec 32 := 0#32
  let v53 : BitVec 1 := Scalar.cmpi .ne v52 c0_i32_51
  v53

def k0_off6 : Fin 2 → Nat :=
  let c2_i32_49 : BitVec 32 := 2#32
  let c16_i32_52 : BitVec 32 := 16#32
  let v54 : BitVec 32 := Scalar.subi c2_i32_49 c16_i32_52
  let c256_i32_53 : BitVec 32 := 256#32
  let v55 : BitVec 32 := Scalar.muli v54 c256_i32_53
  let c0_i32_56 : BitVec 32 := 0#32
  ![v55.toNat, 0]
def k0_cond8 (i : grid0.Coords) : BitVec 1 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c16_i32 : BitVec 32 := 16#32
  let v8 : BitVec 1 := Scalar.cmpi .slt v4 c16_i32
  let v9 : BitVec 32 := Scalar.extui v8
  let c0_i32_4 : BitVec 32 := 0#32
  let v10 : BitVec 1 := Scalar.cmpi .ne v9 c0_i32_4
  v10

def k0_off7 (i : grid0.Coords) : Fin 1 → Nat :=
  let arg0 : BitVec 32 := BitVec.ofNat 32 (i 0).val
  let c4_i32_1 : BitVec 32 := 4#32
  let v5 : BitVec 32 := Scalar.addi arg0 c4_i32_1
  let c1_i32_2 : BitVec 32 := 1#32
  let v6 : BitVec 32 := Scalar.subi v5 c1_i32_2
  let c4_i32_3 : BitVec 32 := 4#32
  let v7 : BitVec 32 := Scalar.remsi v6 c4_i32_3
  ![v7.toNat]
def k0_off8 (i : grid0.Coords) : Fin 3 → Nat :=
  let arg0 : BitVec 32 := BitVec.ofNat 32 (i 0).val
  let c4_i32_1 : BitVec 32 := 4#32
  let v5 : BitVec 32 := Scalar.addi arg0 c4_i32_1
  let c1_i32_2 : BitVec 32 := 1#32
  let v6 : BitVec 32 := Scalar.subi v5 c1_i32_2
  let c4_i32_3 : BitVec 32 := 4#32
  let v7 : BitVec 32 := Scalar.remsi v6 c4_i32_3
  let c0_i32_18 : BitVec 32 := 0#32
  let c0_i32_19 : BitVec 32 := 0#32
  ![v7.toNat, 0, 0]
def k0_off9 (i : grid0.Coords) : Fin 2 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c256_i32_17 : BitVec 32 := 256#32
  let v30 : BitVec 32 := Scalar.muli v4 c256_i32_17
  let c0_i32_20 : BitVec 32 := 0#32
  ![v30.toNat, 0]
def k0_cond9 (i : grid0.Coords) : BitVec 1 :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c16_i32_5 : BitVec 32 := 16#32
  let v11 : BitVec 1 := Scalar.cmpi .sge v4 c16_i32_5
  let c32_i32 : BitVec 32 := 32#32
  let v12 : BitVec 1 := Scalar.cmpi .slt v4 c32_i32
  let v13 : BitVec 1 := Scalar.andi v11 v12
  let v14 : BitVec 32 := Scalar.extui v13
  let c0_i32_6 : BitVec 32 := 0#32
  let v15 : BitVec 1 := Scalar.cmpi .ne v14 c0_i32_6
  v15

def k0_off10 (i : grid0.Coords) : Fin 1 → Nat :=
  let arg0 : BitVec 32 := BitVec.ofNat 32 (i 0).val
  let c4_i32_1 : BitVec 32 := 4#32
  let v5 : BitVec 32 := Scalar.addi arg0 c4_i32_1
  let c1_i32_2 : BitVec 32 := 1#32
  let v6 : BitVec 32 := Scalar.subi v5 c1_i32_2
  let c4_i32_3 : BitVec 32 := 4#32
  let v7 : BitVec 32 := Scalar.remsi v6 c4_i32_3
  ![v7.toNat]
def k0_off11 (i : grid0.Coords) : Fin 3 → Nat :=
  let arg0 : BitVec 32 := BitVec.ofNat 32 (i 0).val
  let c4_i32_1 : BitVec 32 := 4#32
  let v5 : BitVec 32 := Scalar.addi arg0 c4_i32_1
  let c1_i32_2 : BitVec 32 := 1#32
  let v6 : BitVec 32 := Scalar.subi v5 c1_i32_2
  let c4_i32_3 : BitVec 32 := 4#32
  let v7 : BitVec 32 := Scalar.remsi v6 c4_i32_3
  let c0_i32_19 : BitVec 32 := 0#32
  let c0_i32_20 : BitVec 32 := 0#32
  ![v7.toNat, 0, 0]
def k0_off12 (i : grid0.Coords) : Fin 2 → Nat :=
  let arg0 : BitVec 32 := BitVec.ofNat 32 (i 0).val
  let c4_i32 : BitVec 32 := 4#32
  let v3 : BitVec 32 := Scalar.addi arg0 c4_i32
  let c1_i32 : BitVec 32 := 1#32
  let v4 : BitVec 32 := Scalar.subi v3 c1_i32
  let c16_i32_17 : BitVec 32 := 16#32
  let v30 : BitVec 32 := Scalar.subi v4 c16_i32_17
  let c256_i32_18 : BitVec 32 := 256#32
  let v31 : BitVec 32 := Scalar.muli v30 c256_i32_18
  let c0_i32_21 : BitVec 32 := 0#32
  ![v31.toNat, 0]
def k0_off13 (i : grid0.Coords) : Fin 1 → Nat :=
  let arg0 : BitVec 32 := BitVec.ofNat 32 (i 0).val
  let c4_i32_7 : BitVec 32 := 4#32
  let v16 : BitVec 32 := Scalar.remsi arg0 c4_i32_7
  ![v16.toNat]
def k0_off14 (i : grid0.Coords) : Fin 3 → Nat :=
  let arg0 : BitVec 32 := BitVec.ofNat 32 (i 0).val
  let c4_i32_7 : BitVec 32 := 4#32
  let v16 : BitVec 32 := Scalar.remsi arg0 c4_i32_7
  let c0_i32_8 : BitVec 32 := 0#32
  let c0_i32_9 : BitVec 32 := 0#32
  ![v16.toNat, 0, 0]
def k0_cond10 (i : grid0.Coords) : BitVec 1 :=
  let arg0 : BitVec 32 := BitVec.ofNat 32 (i 0).val
  let c16_i32_13 : BitVec 32 := 16#32
  let v24 : BitVec 1 := Scalar.cmpi .slt arg0 c16_i32_13
  let v25 : BitVec 32 := Scalar.extui v24
  let c0_i32_14 : BitVec 32 := 0#32
  let v26 : BitVec 1 := Scalar.cmpi .ne v25 c0_i32_14
  v26

def k0_off15 (i : grid0.Coords) : Fin 3 → Nat :=
  let arg0 : BitVec 32 := BitVec.ofNat 32 (i 0).val
  let c4_i32_7 : BitVec 32 := 4#32
  let v16 : BitVec 32 := Scalar.remsi arg0 c4_i32_7
  let v30 : Index := Scalar.indexCast v16
  let c0 : Index := 0#32
  let c0_17 : Index := 0#32
  ![v30.toNat, 0, 0]
def k0_off16 (i : grid0.Coords) : Fin 2 → Nat :=
  let arg0 : BitVec 32 := BitVec.ofNat 32 (i 0).val
  let c16_i32_12 : BitVec 32 := 16#32
  let v22 : BitVec 32 := Scalar.remsi arg0 c16_i32_12
  let c256_i32 : BitVec 32 := 256#32
  let v23 : BitVec 32 := Scalar.muli v22 c256_i32
  let v35 : Index := Scalar.indexCast v23
  let c0_20 : Index := 0#32
  ![v35.toNat, 0]
def k0_cond11 (i : grid0.Coords) : BitVec 1 :=
  let arg0 : BitVec 32 := BitVec.ofNat 32 (i 0).val
  let c16_i32_15 : BitVec 32 := 16#32
  let v27 : BitVec 1 := Scalar.cmpi .sge arg0 c16_i32_15
  let v28 : BitVec 32 := Scalar.extui v27
  let c0_i32_16 : BitVec 32 := 0#32
  let v29 : BitVec 1 := Scalar.cmpi .ne v28 c0_i32_16
  v29

def k0_off17 (i : grid0.Coords) : Fin 3 → Nat :=
  let arg0 : BitVec 32 := BitVec.ofNat 32 (i 0).val
  let c4_i32_7 : BitVec 32 := 4#32
  let v16 : BitVec 32 := Scalar.remsi arg0 c4_i32_7
  let v30 : Index := Scalar.indexCast v16
  let c0 : Index := 0#32
  let c0_17 : Index := 0#32
  ![v30.toNat, 0, 0]
def k0_off18 (i : grid0.Coords) : Fin 2 → Nat :=
  let arg0 : BitVec 32 := BitVec.ofNat 32 (i 0).val
  let c16_i32_12 : BitVec 32 := 16#32
  let v22 : BitVec 32 := Scalar.remsi arg0 c16_i32_12
  let c256_i32 : BitVec 32 := 256#32
  let v23 : BitVec 32 := Scalar.muli v22 c256_i32
  let v35 : Index := Scalar.indexCast v23
  let c0_20 : Index := 0#32
  ![v35.toNat, 0]
def k0_cond12 (i : grid0.Coords) : BitVec 1 :=
  let arg0 : BitVec 32 := BitVec.ofNat 32 (i 0).val
  let c16_i32_23 : BitVec 32 := 16#32
  let v47 : BitVec 1 := Scalar.cmpi .eq arg0 c16_i32_23
  let v48 : BitVec 32 := Scalar.extui v47
  let c0_i32_24 : BitVec 32 := 0#32
  let v49 : BitVec 1 := Scalar.cmpi .ne v48 c0_i32_24
  v49

def k0_cond13 (i : grid0.Coords) : BitVec 1 :=
  let arg0 : BitVec 32 := BitVec.ofNat 32 (i 0).val
  let c16_i32_25 : BitVec 32 := 16#32
  let v50 : BitVec 1 := Scalar.cmpi .ne arg0 c16_i32_25
  let v51 : BitVec 32 := Scalar.extui v50
  let c0_i32_26 : BitVec 32 := 0#32
  let v52 : BitVec 1 := Scalar.cmpi .ne v51 c0_i32_26
  v52

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096 : Shape := ⟨1, ![4096]⟩
abbrev S4096x1 : Shape := ⟨2, ![4096, 1]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== Proof.IdealRing.lean ====
/-
  The names the kernel's streaming loop is reasoned with: the sixteen 256-row blocks of `Q` and the sixteen of `AT`,
  the four slots of the VMEM ring, the four DMA semaphores; and the resources attached to them. Grid point `t` consumes
  step `t` of thirty-two: block `t` of `Q` for `t < 16`, block `t - 16` of `AT` afterwards. A step is HOME (its rows in
  HBM are held) or IN FLIGHT into a slot.
-/
module

public import proofs.«01_k».proof.Defs
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameSuffix
public import Idealize.ShloMosaic.Lib.Pipeline.TableIdle
public import Idealize.ShloMosaic.Lib.Pipeline.KitQuiescent
public import Idealize.ShloMosaic.Lib.Ring.AtN
public import Idealize.ShloMosaic.Lib.Affine
public import Idealize.ShloMosaic.Lib.Tactic

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's, beside the counters the kernel's own copies ride on -/

abbrev UU (nD : Nat) (τ : Topo) : Type := UR sig nD τ × Counters
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## Blocks, slots, cells -/

abbrev qM : Memref sig .tc .hbm S4096x4096 .f32 := Memref.whole main_arg0
abbrev tM : Memref sig .tc .hbm S4096x4096 .f32 := Memref.whole main_arg1
abbrev ringM : Memref sig .tc .vmem S4x256x4096 .f32 := Memref.whole cc0_scratch0
abbrev zM : Memref sig .tc .vmem S4096x1 .f32 := Memref.whole cc0_scratch1

abbrev rowOff (b : Fin 16) : Fin 2 → Nat := ![256 * b.val, 0]
theorem rowOff_inb (b : Fin 16) : ∀ a, rowOff b a + S256x4096.size a ≤ S4096x4096.size a := by
  have := b.isLt; intro a; fin_cases a
  · show 256 * b.val + 256 ≤ 4096; omega
  · show 0 + 4096 ≤ 4096; omega
theorem zOff_inb (b : Fin 16) : ∀ a, rowOff b a + S256x1.size a ≤ S4096x1.size a := by
  have := b.isLt; intro a; fin_cases a
  · show 256 * b.val + 256 ≤ 4096; omega
  · show 0 + 1 ≤ 1; omega
abbrev slotOff (s : Fin 4) : Fin 3 → Nat := ![s.val, 0, 0]
theorem slotOff_inb (s : Fin 4) : ∀ a, slotOff s a + S1x256x4096.size a ≤ S4x256x4096.size a := by
  have := s.isLt; intro a; fin_cases a
  · show s.val + 1 ≤ 4; omega
  · show 0 + 256 ≤ 256; omega
  · show 0 + 4096 ≤ 4096; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- Rows `256 b` to `256 b + 255` of `Q`. -/
def qblk (b : Fin 16) : Memref sig .tc .hbm S256x4096 .f32 :=
  qM.slice (Rect.unit (s := S4096x4096) (rowOff b) S256x4096.size (rowOff_inb b)) (fun _ => rfl)
/-- The same rows of `AT`. -/
def tblk (b : Fin 16) : Memref sig .tc .hbm S256x4096 .f32 :=
  tM.slice (Rect.unit (s := S4096x4096) (rowOff b) S256x4096.size (rowOff_inb b)) (fun _ => rfl)
/-- Slot `s` of the ring. -/
def rslot (s : Fin 4) : Memref sig .tc .vmem S256x4096 .f32 :=
  (ringM.slice (Rect.unit (s := S4x256x4096) (slotOff s) S1x256x4096.size (slotOff_inb s)) (fun _ => rfl)).squeeze S256x4096 squeezes_S1x256x4096_S256x4096
/-- Slot `s`'s DMA semaphore. -/
def csm (s : Fin 4) : DmaSems sig S_ := (cc0_scratch2.slice (Rect.unit (s := S4) (semOff s) S1.size (semOff_inb s))).squeeze S_ squeezes_S1_S_

/-- The rows of the 4096-row scratch column that block `b`'s products occupy. -/
abbrev zrect (b : Fin 16) : Rect S4096x1 := Rect.unit (s := S4096x1) (rowOff b) S256x1.size (zOff_inb b)
/-- Slot `s` as the kernel loads it through the whole ring. -/
abbrev srect (s : Fin 4) : Rect S4x256x4096 := Rect.unit (s := S4x256x4096) (slotOff s) S1x256x4096.size (slotOff_inb s)

instance (b : Fin 16) : ClosedOff (rowOff b) := ⟨rowOff b, rfl⟩
instance (s : Fin 4) : ClosedOff (slotOff s) := ⟨slotOff s, rfl⟩

/-! ## The computed offsets at point `i`, and which branches it takes -/

/-- The block a step reads: its number modulo sixteen. -/
abbrev bk16 (t : ℕ) : Fin 16 := ⟨t % 16, Nat.mod_lt _ (by decide)⟩

section Offsets
variable (i : grid0.Coords)

theorem i_lt : (i 0).val < 32 := (i 0).isLt

theorem off7_eq : k0_off7 i = semOff (Ring.sl 4 ((i 0).val + 3)) := k0_off7_eq i
theorem off10_eq : k0_off10 i = semOff (Ring.sl 4 ((i 0).val + 3)) := k0_off10_eq i
theorem off13_eq : k0_off13 i = semOff (Ring.sl 4 (i 0).val) := k0_off13_eq i
theorem off8_eq : k0_off8 i = slotOff (Ring.sl 4 ((i 0).val + 3)) := k0_off8_eq i
theorem off11_eq : k0_off11 i = slotOff (Ring.sl 4 ((i 0).val + 3)) := k0_off11_eq i
theorem off14_eq : k0_off14 i = slotOff (Ring.sl 4 (i 0).val) := k0_off14_eq i
theorem off15_eq : k0_off15 i = slotOff (Ring.sl 4 (i 0).val) := k0_off15_eq i
theorem off17_eq : k0_off17 i = slotOff (Ring.sl 4 (i 0).val) := k0_off17_eq i
theorem off16_eq : k0_off16 i = rowOff (bk16 (i 0).val) := k0_off16_eq i
theorem off18_eq : k0_off18 i = rowOff (bk16 (i 0).val) := k0_off18_eq i
theorem off9_eq (h : (i 0).val + 3 < 16) : k0_off9 i = rowOff (bk16 ((i 0).val + 3)) := by
  rw [k0_off9_eq]; unfold rowOff bk16
  rw [show (256 * (i 0).val + 768) = 256 * (((i 0).val + 3) % 16) by rw [Nat.mod_eq_of_lt h]; ring]
theorem off12_all : ∀ i : grid0.Coords, 16 ≤ (i 0).val + 3 → (i 0).val + 3 < 32 → k0_off12 i = rowOff (bk16 ((i 0).val + 3)) := by
  decide +kernel

theorem cond1_iff : ∀ i : grid0.Coords, k0_cond1 i = 1#1 ↔ (i 0).val = 0 := by decide +kernel
theorem cond8_iff : ∀ i : grid0.Coords, k0_cond8 i = 1#1 ↔ (i 0).val + 3 < 16 := by decide +kernel
theorem cond9_iff : ∀ i : grid0.Coords, k0_cond9 i = 1#1 ↔ (16 ≤ (i 0).val + 3 ∧ (i 0).val + 3 < 32) := by decide +kernel
theorem cond10_iff : ∀ i : grid0.Coords, k0_cond10 i = 1#1 ↔ (i 0).val < 16 := by decide +kernel
theorem cond11_iff : ∀ i : grid0.Coords, k0_cond11 i = 1#1 ↔ 16 ≤ (i 0).val := by decide +kernel
theorem cond12_iff : ∀ i : grid0.Coords, k0_cond12 i = 1#1 ↔ (i 0).val = 16 := by decide +kernel
theorem cond13_iff : ∀ i : grid0.Coords, k0_cond13 i = 1#1 ↔ (i 0).val ≠ 16 := by decide +kernel
theorem cond2_t : k0_cond2 = 1#1 := by decide +kernel
theorem cond3_f : ¬ k0_cond3 = 1#1 := by decide +kernel
theorem cond4_t : k0_cond4 = 1#1 := by decide +kernel
theorem cond5_f : ¬ k0_cond5 = 1#1 := by decide +kernel
theorem cond6_t : k0_cond6 = 1#1 := by decide +kernel
theorem cond7_f : ¬ k0_cond7 = 1#1 := by decide +kernel

instance (priority := high) : ClosedOff (k0_off15 i) := ⟨slotOff (Ring.sl 4 (i 0).val), off15_eq i⟩
instance (priority := high) : ClosedOff (k0_off17 i) := ⟨slotOff (Ring.sl 4 (i 0).val), off17_eq i⟩
instance (priority := high) : ClosedOff (k0_off16 i) := ⟨rowOff (bk16 (i 0).val), off16_eq i⟩
instance (priority := high) : ClosedOff (k0_off18 i) := ⟨rowOff (bk16 (i 0).val), off18_eq i⟩

end Offsets

/-! ### The kernel's slices under their names -/

section Canon
variable (i : grid0.Coords)

private theorem csm_congr {off : Fin 1 → Nat} {s : Fin 4} (e : off = semOff s) (hh) :
    (cc0_scratch2.slice (Rect.unit (s := S4) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 4} (e : off = slotOff s) (hh hs) :
    (ringM.slice (Rect.unit (s := S4x256x4096) off S1x256x4096.size hh) hs).squeeze S256x4096 squeezes_S1x256x4096_S256x4096 = rslot s :=
  congrArg (fun M : Memref sig .tc .vmem S1x256x4096 .f32 => M.squeeze S256x4096 squeezes_S1x256x4096_S256x4096) (Memref.slice_unit_congr _ e _ _ _ _)
private theorem qblk_congr {off : Fin 2 → Nat} {b : Fin 16} (e : off = rowOff b) (hh hs) :
    qM.slice (Rect.unit (s := S4096x4096) off S256x4096.size hh) hs = qblk b := Memref.slice_unit_congr _ e _ _ _ (fun _ => rfl)
private theorem tblk_congr {off : Fin 2 → Nat} {b : Fin 16} (e : off = rowOff b) (hh hs) :
    tM.slice (Rect.unit (s := S4096x4096) off S256x4096.size hh) hs = tblk b := Memref.slice_unit_congr _ e _ _ _ (fun _ => rfl)

@[sl_canon] theorem semL0 (hh) : (cc0_scratch2.slice (Rect.unit (s := S4) ![0] S1.size hh)).squeeze S_ squeezes_S1_S_ = csm (Ring.sl 4 0) := csm_congr (by decide) _
@[sl_canon] theorem semL1 (hh) : (cc0_scratch2.slice (Rect.unit (s := S4) ![1] S1.size hh)).squeeze S_ squeezes_S1_S_ = csm (Ring.sl 4 1) := csm_congr (by decide) _
@[sl_canon] theorem semL2 (hh) : (cc0_scratch2.slice (Rect.unit (s := S4) ![2] S1.size hh)).squeeze S_ squeezes_S1_S_ = csm (Ring.sl 4 2) := csm_congr (by decide) _
@[sl_canon] theorem slotL0 (hh hs) : (ringM.slice (Rect.unit (s := S4x256x4096) ![0, 0, 0] S1x256x4096.size hh) hs).squeeze S256x4096 squeezes_S1x256x4096_S256x4096 = rslot (Ring.sl 4 0) := rslot_congr (by decide) _ _
@[sl_canon] theorem slotL1 (hh hs) : (ringM.slice (Rect.unit (s := S4x256x4096) ![1, 0, 0] S1x256x4096.size hh) hs).squeeze S256x4096 squeezes_S1x256x4096_S256x4096 = rslot (Ring.sl 4 1) := rslot_congr (by decide) _ _
@[sl_canon] theorem slotL2 (hh hs) : (ringM.slice (Rect.unit (s := S4x256x4096) ![2, 0, 0] S1x256x4096.size hh) hs).squeeze S256x4096 squeezes_S1x256x4096_S256x4096 = rslot (Ring.sl 4 2) := rslot_congr (by decide) _ _
@[sl_canon] theorem qL1 (hh hs) : qM.slice (Rect.unit (s := S4096x4096) k0_off1 S256x4096.size hh) hs = qblk (bk16 0) := qblk_congr (by decide +kernel) _ _
@[sl_canon] theorem qL3 (hh hs) : qM.slice (Rect.unit (s := S4096x4096) k0_off3 S256x4096.size hh) hs = qblk (bk16 1) := qblk_congr (by decide +kernel) _ _
@[sl_canon] theorem qL5 (hh hs) : qM.slice (Rect.unit (s := S4096x4096) k0_off5 S256x4096.size hh) hs = qblk (bk16 2) := qblk_congr (by decide +kernel) _ _

@[sl_canon] theorem semI7 (hh) : (cc0_scratch2.slice (Rect.unit (s := S4) (k0_off7 i) S1.size hh)).squeeze S_ squeezes_S1_S_ = csm (Ring.sl 4 ((i 0).val + 3)) := csm_congr (off7_eq i) _
@[sl_canon] theorem semI10 (hh) : (cc0_scratch2.slice (Rect.unit (s := S4) (k0_off10 i) S1.size hh)).squeeze S_ squeezes_S1_S_ = csm (Ring.sl 4 ((i 0).val + 3)) := csm_congr (off10_eq i) _
@[sl_canon] theorem semW13 (hh) : (cc0_scratch2.slice (Rect.unit (s := S4) (k0_off13 i) S1.size hh)).squeeze S_ squeezes_S1_S_ = csm (Ring.sl 4 (i 0).val) := csm_congr (off13_eq i) _
@[sl_canon] theorem slotI8 (hh hs) : (ringM.slice (Rect.unit (s := S4x256x4096) (k0_off8 i) S1x256x4096.size hh) hs).squeeze S256x4096 squeezes_S1x256x4096_S256x4096 = rslot (Ring.sl 4 ((i 0).val + 3)) := rslot_congr (off8_eq i) _ _
@[sl_canon] theorem slotI11 (hh hs) : (ringM.slice (Rect.unit (s := S4x256x4096) (k0_off11 i) S1x256x4096.size hh) hs).squeeze S256x4096 squeezes_S1x256x4096_S256x4096 = rslot (Ring.sl 4 ((i 0).val + 3)) := rslot_congr (off11_eq i) _ _
@[sl_canon] theorem slotW14 (hh hs) : (ringM.slice (Rect.unit (s := S4x256x4096) (k0_off14 i) S1x256x4096.size hh) hs).squeeze S256x4096 squeezes_S1x256x4096_S256x4096 = rslot (Ring.sl 4 (i 0).val) := rslot_congr (off14_eq i) _ _
@[sl_canon] theorem qI9 (h : (i 0).val + 3 < 16) (hh hs) : qM.slice (Rect.unit (s := S4096x4096) (k0_off9 i) S256x4096.size hh) hs = qblk (bk16 ((i 0).val + 3)) := qblk_congr (off9_eq i h) _ _
@[sl_canon] theorem tI12 (h : 16 ≤ (i 0).val + 3) (h' : (i 0).val + 3 < 32) (hh hs) : tM.slice (Rect.unit (s := S4096x4096) (k0_off12 i) S256x4096.size hh) hs = tblk (bk16 ((i 0).val + 3)) := tblk_congr (off12_all i h h') _ _

end Canon

/-! ## The pieces -/

section Pieces
variable (c : Dev nD) (XQ : Buf (Elt F) (qM.view.loc (c : Thread nD τ))) (XT : Buf (Elt F) (tM.view.loc (c : Thread nD τ)))

abbrev cellP (s : Fin 4) : sProp 𝕄 := semVal ((c : Thread nD τ), SemLoc.dma (csm s).sem) 0
abbrev slotP (s : Fin 4) (f : Buf (Elt F) ((rslot s).view.loc (c : Thread nD τ))) : sProp 𝕄 :=
  (rslot s).view.loc (c : Thread nD τ) ↦[(rslot s).view.set]{fullShare} f
abbrev homeQ (b : Fin 16) : sProp 𝕄 := (qblk b).view.loc (c : Thread nD τ) ↦[(qblk b).view.set]{fullShare} XQ
abbrev homeT (b : Fin 16) : sProp 𝕄 := (tblk b).view.loc (c : Thread nD τ) ↦[(tblk b).view.set]{fullShare} XT
/-- Step `b`'s block HOME: `Q`'s for the first sixteen steps, then `AT`'s. -/
def homeP (b : Fin 32) : sProp 𝕄 := if b.val < 16 then homeQ c XQ (bk16 b.val) else homeT c XT (bk16 b.val)
/-- The words step `b` moves. -/
def blk (b : Fin 32) : S256x4096.Idx → Elt F .f32 :=
  if b.val < 16 then (qblk (bk16 b.val)).view.read (Elt F) XQ else (tblk (bk16 b.val)).view.read (Elt F) XT
/-- A copy IN FLIGHT into slot `s` that will deliver the words `w` there, issued over `f` and lending `D`. -/
abbrev flightW (s : Fin 4) (w : S256x4096.Idx → Elt F .f32) (D : sProp 𝕄) (f : Buf (Elt F) ((rslot s).view.loc (c : Thread nD τ))) : sProp 𝕄 :=
  Transfers.Flight countersEmb (c : Thread nD τ) (SemLoc.dma (csm s).sem) () 131072
    iprop(slotP c s ((rslot s).view.writes (Elt F) f [⟨Rect.whole S256x4096, ReadAs.same.apply w⟩]) ∗ D)
/-- Step `b` IN FLIGHT into slot `s`, issued over `f`. -/
def flightP (s : Fin 4) (b : Fin 32) (f : Buf (Elt F) ((rslot s).view.loc (c : Thread nD τ))) : sProp 𝕄 :=
  flightW c s (blk c XQ XT b) (homeP c XQ XT b) f

theorem homeP_lo {b : Fin 32} (h : b.val < 16) : homeP c XQ XT b = homeQ c XQ (bk16 b.val) := if_pos h
theorem homeP_hi {b : Fin 32} (h : ¬ b.val < 16) : homeP c XQ XT b = homeT c XT (bk16 b.val) := if_neg h
theorem blk_lo {b : Fin 32} (h : b.val < 16) : blk c XQ XT b = (qblk (bk16 b.val)).view.read (Elt F) XQ := if_pos h
theorem blk_hi {b : Fin 32} (h : ¬ b.val < 16) : blk c XQ XT b = (tblk (bk16 b.val)).view.read (Elt F) XT := if_neg h
theorem flightP_lo (s : Fin 4) {b : Fin 32} (h : b.val < 16) (f) :
    flightP c XQ XT s b f = flightW c s ((qblk (bk16 b.val)).view.read (Elt F) XQ) (homeQ c XQ (bk16 b.val)) f := by
  unfold flightP; rw [homeP_lo c XQ XT h, blk_lo c XQ XT h]
theorem flightP_hi (s : Fin 4) {b : Fin 32} (h : ¬ b.val < 16) (f) :
    flightP c XQ XT s b f = flightW c s ((tblk (bk16 b.val)).view.read (Elt F) XT) (homeT c XT (bk16 b.val)) f := by
  unfold flightP; rw [homeP_hi c XQ XT h, blk_hi c XQ XT h]

end Pieces

end Cert.Proof.Ideal

end
-- ==== Proof.IdealBody.lean ====
/-
  One grid point of the kernel, run. Six kinds of point: the first (which also issues the first three steps), the points
  that issue a block of `Q`, those that issue a block of `AT` while still multiplying blocks of `Q`, the first point of
  the `AT` phase (which stores both results), the later ones (which add to the first result), and the last three (which
  issue nothing).
-/
module

public import proofs.«01_k».proof.Proof.IdealRing
public import Idealize.ShloMosaic.Lib.Writes
public import Idealize.ShloMosaic.Lib.WritesUnit
public import Idealize.ShloMosaic.Lib.VecWindow
public import Idealize.ShloMosaic.Lib.Pipeline.FrameBody
public import Idealize.ShloMosaic.Lib.Pipeline.Value

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## What the loads read -/

theorem casts_blk : S256x4096.ShapeCasts S1x256x4096 := by decide

/-- A block of rows as the kernel loads it from the ring: with a leading axis of one. -/
abbrev slab (w : S256x4096.Idx → Elt F .f32) : S1x256x4096.Idx → Elt F .f32 := shapeCast S1x256x4096 w casts_blk

theorem ring_read {off : Fin 3 → Nat} {s : Fin 4} (e : off = slotOff s) (hh) (w : S256x4096.Idx → Elt F .f32)
    (f : (rslot s).view.ty.Contents (Elt F)) :
    View.readAt (Elt F) ringM.view (Rect.unit (s := S4x256x4096) off S1x256x4096.size hh).toLoadRect
      ((rslot s).view.writes (Elt F) f [⟨Rect.whole S256x4096, ReadAs.same.apply w⟩]) = slab w := by
  subst e
  have h1 := View.read_writes_whole (rslot s).view f w
  have h2 : shapeCast S256x4096 (View.readAt (Elt F) ringM.view (srect s).toLoadRect
      ((rslot s).view.writes (Elt F) f [⟨Rect.whole S256x4096, ReadAs.same.apply w⟩])) shapeCasts_S1x256x4096_S256x4096 = w := h1
  exact (shapeCast_shapeCast _ _ _).symm.trans (congrArg slab h2)

theorem within_slot (s : Fin 4) : (ringM.access (srect s)).set ⊆ (rslot s).view.set := by
  unfold rslot
  exact subset_of_eq (View.set_reshape _ _).symm

/-- A column's rows in block `b`. -/
abbrev rowsOf (x : S4096x1.Idx → Elt F .f32) (b : Fin 16) : S256x1.Idx → Elt F .f32 := View.ld x (zrect b)

theorem rows_read (m : Memref sig .tc .vmem S4096x1 .f32) (f : m.view.ty.Contents (Elt F)) {off : Fin 2 → Nat} {b : Fin 16} (e : off = rowOff b) (hh) :
    View.readAt (Elt F) m.view (Rect.unit (s := S4096x1) off S256x1.size hh).toLoadRect f = rowsOf (m.view.read (Elt F) f) b := by
  subst e; rfl

theorem rows_disjoint {b b' : Fin 16} (h : b ≠ b') (y : (zrect b').shape.Idx) : (zrect b').idx y ∉ (zrect b).set := by
  intro hy
  have h0 := (Rect.mem_set_unit.mp hy) 0
  have e0 : (((zrect b').idx y) 0).val = 256 * b'.val + 1 * (y 0).val := rfl
  have hy0 : (y 0).val < 256 := (y 0).isLt
  have h1 : 256 * b.val ≤ (((zrect b').idx y) 0).val ∧ (((zrect b').idx y) 0).val < 256 * b.val + 256 := h0
  apply h; apply Fin.ext; omega

section Spec
variable (c : Dev nD) (XQ : Buf (Elt F) (qM.view.loc (c : Thread nD τ))) (XT : Buf (Elt F) (tM.view.loc (c : Thread nD τ)))
  (X Y C : S4096x1.Idx → Elt F .f32)

/-- Block `b` of the product `Q x`. -/
def zval (b : Fin 16) : S256x1.Idx → Elt F .f32 := k0_pay1 (slab ((qblk b).view.read (Elt F) XQ)) X

/-- The scratch column holds the first `n` blocks of `Q x`. -/
def Zinv (n : ℕ) (z : Buf (Elt F) (zM.view.loc (c : Thread nD τ))) : Prop :=
  ∀ b : Fin 16, b.val < n → rowsOf (zM.view.read (Elt F) z) b = zval c XQ X b

/-- Block `b`'s part of the sum of absolute values: of the rows of `AT y + Q x + c`. -/
def part (b : Fin 16) : Elt F .f32 :=
  k0_pay2 (slab ((tblk b).view.read (Elt F) XT)) Y (zval c XQ X b) (rowsOf C b)

/-- The running sum after point `t`: of the parts of the blocks up to `t - 16`. -/
def topAt : ℕ → Elt F .f32
  | 0 => part c XQ XT X Y C (bk16 0)
  | n + 1 => Scalar.addf (topAt n) (part c XQ XT X Y C (bk16 (n + 1)))

variable {c XQ X} in
theorem Zinv.mono {n n' : ℕ} (h : ∀ b : Fin 16, b.val < n' → b.val < n) {z} (hz : Zinv c XQ X n z) : Zinv c XQ X n' z :=
  fun b hb => hz b (h b hb)

variable {c XQ X} in
theorem Zinv.step {n : ℕ} (hn : n < 16) {z : Buf (Elt F) (zM.view.loc (c : Thread nD τ))} (hz : Zinv c XQ X n z) {off : Fin 2 → Nat} (e : off = rowOff (bk16 n)) (hh)
    {w : S256x1.Idx → Elt F .f32} (hw : w = zval c XQ X (bk16 n)) :
    Zinv c XQ X (n + 1) (zM.view.writes (Elt F) z [⟨Rect.unit (s := S4096x1) off S256x1.size hh, w⟩]) := by
  subst e hw
  intro b hb
  by_cases hbn : b = bk16 n
  · subst hbn; funext y
    exact View.read_writes_cons_emb zM.view z (zrect (bk16 n)) _ [] y
  · rw [← hz b (by have : b.val ≠ n := fun e => hbn (Fin.ext (by show b.val = n % 16; omega)); omega)]
    funext y
    exact View.read_writes_cons_miss zM.view z _ [] _ (rows_disjoint (fun e => hbn e.symm) y)

theorem part_read {i : grid0.Coords} {z : Buf (Elt F) (zM.view.loc (c : Thread nD τ))} (hz : Zinv c XQ X 16 z)
    (m2 m3 : Memref sig .tc .vmem S4096x1 .f32) (f : (rslot (Ring.sl 4 (i 0).val)).view.ty.Contents (Elt F)) (h1 h2 h3 h4) :
    k0_pay2 (View.readAt (Elt F) ringM.view (Rect.unit (s := S4x256x4096) (k0_off17 i) S1x256x4096.size h1).toLoadRect
          ((rslot (Ring.sl 4 (i 0).val)).view.writes (Elt F) f [⟨Rect.whole S256x4096, ReadAs.same.apply ((tblk (bk16 (i 0).val)).view.read (Elt F) XT)⟩]))
        (View.readAt (Elt F) m2.view (Rect.unit (s := S4096x1) ![0, 0] S4096x1.size h2).toLoadRect (m2.view.rep Y))
        (View.readAt (Elt F) zM.view (Rect.unit (s := S4096x1) (k0_off18 i) S256x1.size h3).toLoadRect z)
        (View.readAt (Elt F) m3.view (Rect.unit (s := S4096x1) (k0_off18 i) S256x1.size h4).toLoadRect (m3.view.rep C))
      = part c XQ XT X Y C (bk16 (i 0).val) := by
  have e1 := ring_read (F := F) (off17_eq i) h1 ((tblk (bk16 (i 0).val)).view.read (Elt F) XT) f
  have e2 := View.readAt_rep_full m2.view Y h2
  have e3 := (rows_read zM z (off18_eq i) h3).trans (hz (bk16 (i 0).val) (Nat.mod_lt _ (by decide)))
  have e4 := (rows_read m3 (m3.view.rep C) (off18_eq i) h4).trans (congrArg (fun v => rowsOf v _) (View.read_rep _ _))
  exact congr (congr (congr (congrArg k0_pay2 e1) e2) e3) e4

theorem acc_read {v31 v33 v36 v39 r a q} (hr : r = a) (hp : k0_pay2 (F := F) v31 v33 v36 v39 = q) :
    k0_pay4 v31 v33 v36 v39 r = Scalar.addf a q := by
  subst hr; subst hp; rfl

end Spec

section Body

variable (c : Dev nD) (XQ : Buf (Elt F) (qM.view.loc (c : Thread nD τ))) (XT : Buf (Elt F) (tM.view.loc (c : Thread nD τ)))
  (X Y C : S4096x1.Idx → Elt F .f32)
  (i : grid0.Coords)
  (arg1 : Memref sig .tc .vmem S4096x1 .f32) (harg1 : arg1.IsWhole)
  (arg2 : Memref sig .tc .vmem S4096x1 .f32) (harg2 : arg2.IsWhole)
  (arg3 : Memref sig .tc .vmem S4096x1 .f32) (harg3 : arg3.IsWhole)
  (arg6 : Memref sig .tc .smem S1x1 .f32) (harg6 : arg6.IsWhole)
  (arg7 : Memref sig .tc .smem S1x1 .f32) (harg7 : arg7.IsWhole)

abbrev bodyG : Prog (TpuEff nD τ sig (Elt F) Λ₀ .tc) PUnit :=
  cc0__tc_kernel i arg1 harg1 arg2 harg2 arg3 harg3 qM (Memref.isWhole_whole _) tM (Memref.isWhole_whole _)
    arg6 harg6 arg7 harg7 ringM (Memref.isWhole_whole _) zM (Memref.isWhole_whole _) cc0_scratch2

abbrev zP (z : Buf (Elt F) (zM.view.loc (c : Thread nD τ))) : sProp 𝕄 :=
  zM.view.loc (c : Thread nD τ) ↦[zM.view.set]{fullShare} z

abbrev wpB (Q : PUnit → sProp 𝕄) : sProp 𝕄 :=
  wp Idealize.ShloMosaic.frame (wpE (defs₀ (F := F)) 𝒱₀ (c : Thread nD τ) none) Set.univ (bodyG i arg1 harg1 arg2 harg2 arg3 harg3 arg6 harg6 arg7 harg7) Q

/-- A point below 13 but not the first: step `t`'s block of `Q` is waited for and multiplied by `x`, step `t + 3`'s issued. -/
theorem run_q (h0 : (i 0).val ≠ 0) (h13 : (i 0).val + 3 < 16) (z : Buf (Elt F) (zM.view.loc (c : Thread nD τ))) (hz : Zinv c XQ X (i 0).val z) (W f f') (Q : PUnit → sProp 𝕄) :
    iprop((owns c arg1 fullShare X ∗ zP c z
        ∗ flightW c (Ring.sl 4 (i 0).val) ((qblk (bk16 (i 0).val)).view.read (Elt F) XQ) (homeQ c XQ (bk16 (i 0).val)) f
        ∗ homeQ c XQ (bk16 ((i 0).val + 3))
        ∗ slotP c (Ring.sl 4 ((i 0).val + 3)) f' ∗ cellP c (Ring.sl 4 ((i 0).val + 3)) ∗ owes (c : Thread nD τ) 0 W)
      ∗ ((owns c arg1 fullShare X ∗ (∃ z', ⌜Zinv c XQ X ((i 0).val + 1) z'⌝ ∗ zP c z')
        ∗ homeQ c XQ (bk16 (i 0).val) ∗ (∃ f, slotP c (Ring.sl 4 (i 0).val) f) ∗ cellP c (Ring.sl 4 (i 0).val)
        ∗ (∃ f, flightW c (Ring.sl 4 ((i 0).val + 3)) ((qblk (bk16 ((i 0).val + 3))).view.read (Elt F) XQ) (homeQ c XQ (bk16 ((i 0).val + 3))) f)
        ∗ ∃ W, owes (c : Thread nD τ) 0 W) -∗ Q ⟨⟩))
      ⊢ wpB c i arg1 harg1 arg2 harg2 arg3 harg3 arg6 harg6 arg7 harg7 Q := by
  have c1 : ¬ k0_cond1 i = 1#1 := by rw [cond1_iff]; omega
  have c8 : k0_cond8 i = 1#1 := by rw [cond8_iff]; omega
  have c9 : ¬ k0_cond9 i = 1#1 := by rw [cond9_iff]; omega
  have c10 : k0_cond10 i = 1#1 := by rw [cond10_iff]; omega
  have c11 : ¬ k0_cond11 i = 1#1 := by rw [cond11_iff]; omega
  have hw := within_slot (Ring.sl 4 (i 0).val)
  rw [owns_eq_rep (c : Thread nD τ) arg1]
  unfold wpB
  iintro ⟨⟨H1, Hz, HF, Hh, Hs, Hc, HW⟩, Hk⟩
  sl_exec
  sl_step
  iapply Hk
  isplitl [H1]; · iexact H1
  isplitl [Hz]
  · iexists _
    isplitr
    rotate_left
    · iexact Hz
    · ipureintro
      refine hz.step (by omega) (off16_eq i) _ ?_
      unfold zval
      rw [View.readAt_rep_full]
      exact congrArg (fun v => k0_pay1 v X) (ring_read (off15_eq i) _ _ _)
  isplitl [HF_src]; · iexact HF_src
  isplitl [HF_dst]; · iexists _; iexact HF_dst
  isplitl [HF]; · iexact HF
  isplitl [Hc]; · iexists f'; iexact Hc
  iexists _; iexact HW

/-- A point from 13 to 15: as before, but the block issued is of `AT`. -/
theorem run_qt (h0 : 16 ≤ (i 0).val + 3) (h16 : (i 0).val < 16) (z : Buf (Elt F) (zM.view.loc (c : Thread nD τ))) (hz : Zinv c XQ X (i 0).val z) (W f f') (Q : PUnit → sProp 𝕄) :
    iprop((owns c arg1 fullShare X ∗ zP c z
        ∗ flightW c (Ring.sl 4 (i 0).val) ((qblk (bk16 (i 0).val)).view.read (Elt F) XQ) (homeQ c XQ (bk16 (i 0).val)) f
        ∗ homeT c XT (bk16 ((i 0).val + 3))
        ∗ slotP c (Ring.sl 4 ((i 0).val + 3)) f' ∗ cellP c (Ring.sl 4 ((i 0).val + 3)) ∗ owes (c : Thread nD τ) 0 W)
      ∗ ((owns c arg1 fullShare X ∗ (∃ z', ⌜Zinv c XQ X ((i 0).val + 1) z'⌝ ∗ zP c z')
        ∗ homeQ c XQ (bk16 (i 0).val) ∗ (∃ f, slotP c (Ring.sl 4 (i 0).val) f) ∗ cellP c (Ring.sl 4 (i 0).val)
        ∗ (∃ f, flightW c (Ring.sl 4 ((i 0).val + 3)) ((tblk (bk16 ((i 0).val + 3))).view.read (Elt F) XT) (homeT c XT (bk16 ((i 0).val + 3))) f)
        ∗ ∃ W, owes (c : Thread nD τ) 0 W) -∗ Q ⟨⟩))
      ⊢ wpB c i arg1 harg1 arg2 harg2 arg3 harg3 arg6 harg6 arg7 harg7 Q := by
  have h32 : (i 0).val + 3 < 32 := by omega
  have c1 : ¬ k0_cond1 i = 1#1 := by rw [cond1_iff]; omega
  have c8 : ¬ k0_cond8 i = 1#1 := by rw [cond8_iff]; omega
  have c9 : k0_cond9 i = 1#1 := by rw [cond9_iff]; omega
  have c10 : k0_cond10 i = 1#1 := by rw [cond10_iff]; omega
  have c11 : ¬ k0_cond11 i = 1#1 := by rw [cond11_iff]; omega
  have hw := within_slot (Ring.sl 4 (i 0).val)
  rw [owns_eq_rep (c : Thread nD τ) arg1]
  unfold wpB
  iintro ⟨⟨H1, Hz, HF, Hh, Hs, Hc, HW⟩, Hk⟩
  sl_exec
  sl_step
  iapply Hk
  isplitl [H1]; · iexact H1
  isplitl [Hz]
  · iexists _
    isplitr
    rotate_left
    · iexact Hz
    · ipureintro
      refine hz.step (by omega) (off16_eq i) _ ?_
      unfold zval
      rw [View.readAt_rep_full]
      exact congrArg (fun v => k0_pay1 v X) (ring_read (off15_eq i) _ _ _)
  isplitl [HF_src]; · iexact HF_src
  isplitl [HF_dst]; · iexists _; iexact HF_dst
  isplitl [HF]; · iexact HF
  isplitl [Hc]; · iexists f'; iexact Hc
  iexists _; iexact HW

/-- The first point: steps 0, 1, 2 and 3 are issued, step 0 is waited for and multiplied by `x`. -/
theorem run_first (h0 : (i 0).val = 0) (z : Buf (Elt F) (zM.view.loc (c : Thread nD τ))) (W f0 f1 f2 f3) (Q : PUnit → sProp 𝕄) :
    iprop((owns c arg1 fullShare X ∗ zP c z
        ∗ homeQ c XQ (bk16 0) ∗ homeQ c XQ (bk16 1) ∗ homeQ c XQ (bk16 2) ∗ homeQ c XQ (bk16 ((i 0).val + 3))
        ∗ slotP c (Ring.sl 4 0) f0 ∗ slotP c (Ring.sl 4 1) f1 ∗ slotP c (Ring.sl 4 2) f2 ∗ slotP c (Ring.sl 4 ((i 0).val + 3)) f3
        ∗ cellP c (Ring.sl 4 0) ∗ cellP c (Ring.sl 4 1) ∗ cellP c (Ring.sl 4 2) ∗ cellP c (Ring.sl 4 ((i 0).val + 3)) ∗ owes (c : Thread nD τ) 0 W)
      ∗ ((owns c arg1 fullShare X ∗ (∃ z', ⌜Zinv c XQ X ((i 0).val + 1) z'⌝ ∗ zP c z')
        ∗ homeQ c XQ (bk16 (i 0).val) ∗ (∃ f, slotP c (Ring.sl 4 (i 0).val) f) ∗ cellP c (Ring.sl 4 (i 0).val)
        ∗ (∃ f, flightW c (Ring.sl 4 1) ((qblk (bk16 1)).view.read (Elt F) XQ) (homeQ c XQ (bk16 1)) f)
        ∗ (∃ f, flightW c (Ring.sl 4 2) ((qblk (bk16 2)).view.read (Elt F) XQ) (homeQ c XQ (bk16 2)) f)
        ∗ (∃ f, flightW c (Ring.sl 4 ((i 0).val + 3)) ((qblk (bk16 ((i 0).val + 3))).view.read (Elt F) XQ) (homeQ c XQ (bk16 ((i 0).val + 3))) f)
        ∗ ∃ W, owes (c : Thread nD τ) 0 W) -∗ Q ⟨⟩))
      ⊢ wpB c i arg1 harg1 arg2 harg2 arg3 harg3 arg6 harg6 arg7 harg7 Q := by
  have h13 : (i 0).val + 3 < 16 := by omega
  have c1 : k0_cond1 i = 1#1 := by rw [cond1_iff]; omega
  have c8 : k0_cond8 i = 1#1 := by rw [cond8_iff]; omega
  have c9 : ¬ k0_cond9 i = 1#1 := by rw [cond9_iff]; omega
  have c10 : k0_cond10 i = 1#1 := by rw [cond10_iff]; omega
  have c11 : ¬ k0_cond11 i = 1#1 := by rw [cond11_iff]; omega
  have c2 := cond2_t
  have c3 := cond3_f
  have c4 := cond4_t
  have c5 := cond5_f
  have c6 := cond6_t
  have c7 := cond7_f
  have hw := within_slot (Ring.sl 4 (i 0).val)
  have eF : iprop(∃ f, flightW (F := F) c (Ring.sl 4 0) ((qblk (bk16 0)).view.read (Elt F) XQ) (homeQ c XQ (bk16 0)) f)
      ⊢ iprop(∃ f, flightW c (Ring.sl 4 (i 0).val) ((qblk (bk16 (i 0).val)).view.read (Elt F) XQ) (homeQ c XQ (bk16 (i 0).val)) f) := by
    rw [h0]
  rw [owns_eq_rep (c : Thread nD τ) arg1]
  unfold wpB
  iintro ⟨⟨H1, Hz, Hh0, Hh1, Hh2, Hh3, Hs0, Hs1, Hs2, Hs3, Hc0, Hc1, Hc2, Hc3, HW⟩, Hk⟩
  sl_exec
  ihave Hc0 := eF $$ [Hc0]
  · iexists f0; iexact Hc0
  icases Hc0 with ⟨%g, HF⟩
  sl_exec
  sl_step
  iapply Hk
  isplitl [H1]; · iexact H1
  isplitl [Hz]
  · iexists _
    isplitr
    rotate_left
    · iexact Hz
    · ipureintro
      have hz : Zinv c XQ X (i 0).val z := fun b hb => absurd hb (by omega)
      refine hz.step (by omega) (off16_eq i) _ ?_
      unfold zval
      rw [View.readAt_rep_full]
      exact congrArg (fun v => k0_pay1 v X) (ring_read (off15_eq i) _ _ _)
  isplitl [HF_src]; · iexact HF_src
  isplitl [HF_dst]; · iexists _; iexact HF_dst
  isplitl [HF]; · iexact HF
  isplitl [Hc1]; · iexists f1; iexact Hc1
  isplitl [Hc2]; · iexists f2; iexact Hc2
  isplitl [Hc3]; · iexists f3; iexact Hc3
  iexists _; iexact HW

/-- The first point of the second phase: block 0 of `AT` is multiplied by `y`; both results are stored. -/
theorem run_start (h16 : (i 0).val = 16) (z : Buf (Elt F) (zM.view.loc (c : Thread nD τ))) (hz : Zinv c XQ X 16 z) (W f f' T B) (Q : PUnit → sProp 𝕄) :
    iprop((owns c arg2 fullShare Y ∗ owns c arg3 fullShare C ∗ owns c arg6 fullShare T ∗ owns c arg7 fullShare B ∗ zP c z
        ∗ flightW c (Ring.sl 4 (i 0).val) ((tblk (bk16 (i 0).val)).view.read (Elt F) XT) (homeT c XT (bk16 (i 0).val)) f
        ∗ homeT c XT (bk16 ((i 0).val + 3))
        ∗ slotP c (Ring.sl 4 ((i 0).val + 3)) f' ∗ cellP c (Ring.sl 4 ((i 0).val + 3)) ∗ owes (c : Thread nD τ) 0 W)
      ∗ ((owns c arg2 fullShare Y ∗ owns c arg3 fullShare C
        ∗ owns c arg6 fullShare (fun _ => part c XQ XT X Y C (bk16 (i 0).val)) ∗ owns c arg7 fullShare (fun _ => k0_pay3 C) ∗ zP c z
        ∗ homeT c XT (bk16 (i 0).val) ∗ (∃ f, slotP c (Ring.sl 4 (i 0).val) f) ∗ cellP c (Ring.sl 4 (i 0).val)
        ∗ (∃ f, flightW c (Ring.sl 4 ((i 0).val + 3)) ((tblk (bk16 ((i 0).val + 3))).view.read (Elt F) XT) (homeT c XT (bk16 ((i 0).val + 3))) f)
        ∗ ∃ W, owes (c : Thread nD τ) 0 W) -∗ Q ⟨⟩))
      ⊢ wpB c i arg1 harg1 arg2 harg2 arg3 harg3 arg6 harg6 arg7 harg7 Q := by
  have h3 : 16 ≤ (i 0).val + 3 := by omega
  have h32 : (i 0).val + 3 < 32 := by omega
  have c1 : ¬ k0_cond1 i = 1#1 := by rw [cond1_iff]; omega
  have c8 : ¬ k0_cond8 i = 1#1 := by rw [cond8_iff]; omega
  have c9 : k0_cond9 i = 1#1 := by rw [cond9_iff]; omega
  have c10 : ¬ k0_cond10 i = 1#1 := by rw [cond10_iff]; omega
  have c11 : k0_cond11 i = 1#1 := by rw [cond11_iff]; omega
  have c12 : k0_cond12 i = 1#1 := by rw [cond12_iff]; omega
  have c13 : ¬ k0_cond13 i = 1#1 := by rw [cond13_iff]; omega
  have hw := within_slot (Ring.sl 4 (i 0).val)
  rw [owns_eq_rep (c : Thread nD τ) arg2, owns_eq_rep (c : Thread nD τ) arg3, owns_eq_rep (c : Thread nD τ) arg6, owns_eq_rep (c : Thread nD τ) arg7]
  unfold wpB
  iintro ⟨⟨H2, H3, H6, H7, Hz, HF, Hh, Hs, Hc, HW⟩, Hk⟩
  sl_exec
  sl_step
  iapply Hk
  isplitl [H2]; · iexact H2
  isplitl [H3]; · iexact H3
  isplitl [H6]
  · unfold owns
    iexists _
    isplitr
    rotate_left
    · iexact H6
    · ipureintro
      refine (View.read_writes_full arg6.view _ _ _ []).trans (funext fun _ => ?_)
      exact part_read c XQ XT X Y C hz arg2 arg3 _ _ _ _ _
  isplitl [H7]
  · unfold owns
    iexists _
    isplitr
    rotate_left
    · iexact H7
    · ipureintro
      refine (View.read_writes_full arg7.view _ _ _ []).trans (funext fun _ => ?_)
      exact congrArg k0_pay3 (View.readAt_rep_full arg3.view C inb_S4096x1_S4096x1_0_0)
  isplitl [Hz]; · iexact Hz
  isplitl [HF_src]; · iexact HF_src
  isplitl [HF_dst]; · iexists _; iexact HF_dst
  isplitl [HF]; · iexact HF
  isplitl [Hc]; · iexists f'; iexact Hc
  iexists _; iexact HW

/-- A later point of the second phase that still issues a block. -/
theorem run_acc (h16 : 16 < (i 0).val) (h32 : (i 0).val + 3 < 32) (z : Buf (Elt F) (zM.view.loc (c : Thread nD τ))) (hz : Zinv c XQ X 16 z) (W f f' a) (Q : PUnit → sProp 𝕄) :
    iprop((owns c arg2 fullShare Y ∗ owns c arg3 fullShare C ∗ owns c arg6 fullShare (fun _ => a) ∗ zP c z
        ∗ flightW c (Ring.sl 4 (i 0).val) ((tblk (bk16 (i 0).val)).view.read (Elt F) XT) (homeT c XT (bk16 (i 0).val)) f
        ∗ homeT c XT (bk16 ((i 0).val + 3))
        ∗ slotP c (Ring.sl 4 ((i 0).val + 3)) f' ∗ cellP c (Ring.sl 4 ((i 0).val + 3)) ∗ owes (c : Thread nD τ) 0 W)
      ∗ ((owns c arg2 fullShare Y ∗ owns c arg3 fullShare C
        ∗ owns c arg6 fullShare (fun _ => Scalar.addf a (part c XQ XT X Y C (bk16 (i 0).val))) ∗ zP c z
        ∗ homeT c XT (bk16 (i 0).val) ∗ (∃ f, slotP c (Ring.sl 4 (i 0).val) f) ∗ cellP c (Ring.sl 4 (i 0).val)
        ∗ (∃ f, flightW c (Ring.sl 4 ((i 0).val + 3)) ((tblk (bk16 ((i 0).val + 3))).view.read (Elt F) XT) (homeT c XT (bk16 ((i 0).val + 3))) f)
        ∗ ∃ W, owes (c : Thread nD τ) 0 W) -∗ Q ⟨⟩))
      ⊢ wpB c i arg1 harg1 arg2 harg2 arg3 harg3 arg6 harg6 arg7 harg7 Q := by
  have h3 : 16 ≤ (i 0).val + 3 := by omega
  have c1 : ¬ k0_cond1 i = 1#1 := by rw [cond1_iff]; omega
  have c8 : ¬ k0_cond8 i = 1#1 := by rw [cond8_iff]; omega
  have c9 : k0_cond9 i = 1#1 := by rw [cond9_iff]; omega
  have c10 : ¬ k0_cond10 i = 1#1 := by rw [cond10_iff]; omega
  have c11 : k0_cond11 i = 1#1 := by rw [cond11_iff]; omega
  have c12 : ¬ k0_cond12 i = 1#1 := by rw [cond12_iff]; omega
  have c13 : k0_cond13 i = 1#1 := by rw [cond13_iff]; omega
  have hw := within_slot (Ring.sl 4 (i 0).val)
  rw [owns_eq_rep (c : Thread nD τ) arg2, owns_eq_rep (c : Thread nD τ) arg3, owns_eq_rep (c : Thread nD τ) arg6 _ (fun _ => a)]
  unfold wpB
  iintro ⟨⟨H2, H3, H6, Hz, HF, Hh, Hs, Hc, HW⟩, Hk⟩
  sl_exec
  sl_step
  iapply Hk
  isplitl [H2]; · iexact H2
  isplitl [H3]; · iexact H3
  isplitl [H6]
  · unfold owns
    iexists _
    isplitr
    rotate_left
    · iexact H6
    · ipureintro
      refine (View.read_writes_full arg6.view _ _ _ []).trans (funext fun _ => ?_)
      exact acc_read (congrFun (View.readAt_rep_full arg6.view (fun _ => a) inb_S1x1_S1x1_0_0) _)
        (part_read c XQ XT X Y C hz arg2 arg3 _ _ _ _ _)
  isplitl [Hz]; · iexact Hz
  isplitl [HF_src]; · iexact HF_src
  isplitl [HF_dst]; · iexists _; iexact HF_dst
  isplitl [HF]; · iexact HF
  isplitl [Hc]; · iexists f'; iexact Hc
  iexists _; iexact HW

/-- One of the last three points, which issue nothing. -/
theorem run_tail (h29 : 32 ≤ (i 0).val + 3) (z : Buf (Elt F) (zM.view.loc (c : Thread nD τ))) (hz : Zinv c XQ X 16 z) (W f a) (Q : PUnit → sProp 𝕄) :
    iprop((owns c arg2 fullShare Y ∗ owns c arg3 fullShare C ∗ owns c arg6 fullShare (fun _ => a) ∗ zP c z
        ∗ flightW c (Ring.sl 4 (i 0).val) ((tblk (bk16 (i 0).val)).view.read (Elt F) XT) (homeT c XT (bk16 (i 0).val)) f
        ∗ owes (c : Thread nD τ) 0 W)
      ∗ ((owns c arg2 fullShare Y ∗ owns c arg3 fullShare C
        ∗ owns c arg6 fullShare (fun _ => Scalar.addf a (part c XQ XT X Y C (bk16 (i 0).val))) ∗ zP c z
        ∗ homeT c XT (bk16 (i 0).val) ∗ (∃ f, slotP c (Ring.sl 4 (i 0).val) f) ∗ cellP c (Ring.sl 4 (i 0).val)
        ∗ ∃ W, owes (c : Thread nD τ) 0 W) -∗ Q ⟨⟩))
      ⊢ wpB c i arg1 harg1 arg2 harg2 arg3 harg3 arg6 harg6 arg7 harg7 Q := by
  have c1 : ¬ k0_cond1 i = 1#1 := by rw [cond1_iff]; omega
  have c8 : ¬ k0_cond8 i = 1#1 := by rw [cond8_iff]; omega
  have c9 : ¬ k0_cond9 i = 1#1 := by rw [cond9_iff]; omega
  have c10 : ¬ k0_cond10 i = 1#1 := by rw [cond10_iff]; omega
  have c11 : k0_cond11 i = 1#1 := by rw [cond11_iff]; omega
  have c12 : ¬ k0_cond12 i = 1#1 := by rw [cond12_iff]; omega
  have c13 : k0_cond13 i = 1#1 := by rw [cond13_iff]; omega
  have hw := within_slot (Ring.sl 4 (i 0).val)
  rw [owns_eq_rep (c : Thread nD τ) arg2, owns_eq_rep (c : Thread nD τ) arg3, owns_eq_rep (c : Thread nD τ) arg6 _ (fun _ => a)]
  unfold wpB
  iintro ⟨⟨H2, H3, H6, Hz, HF, HW⟩, Hk⟩
  sl_exec
  sl_step
  iapply Hk
  isplitl [H2]; · iexact H2
  isplitl [H3]; · iexact H3
  isplitl [H6]
  · unfold owns
    iexists _
    isplitr
    rotate_left
    · iexact H6
    · ipureintro
      refine (View.read_writes_full arg6.view _ _ _ []).trans (funext fun _ => ?_)
      exact acc_read (congrFun (View.readAt_rep_full arg6.view (fun _ => a) inb_S1x1_S1x1_0_0) _)
        (part_read c XQ XT X Y C hz arg2 arg3 _ _ _ _ _)
  isplitl [Hz]; · iexact Hz
  isplitl [HF_src]; · iexact HF_src
  isplitl [HF_dst]; · iexists _; iexact HF_dst
  isplitl [HF]; · iexact HF
  iexists _; iexact HW

end Body

end Cert.Proof.Ideal

end
-- ==== Proof.IdealSets.lean ====
/-
  What the launch hands the kernel, in the loop's terms: `Q` and `AT` whole are their sixteen blocks each, the ring
  buffer is its four slots, the four DMA semaphores are the slots' cells.
-/
module

public import proofs.«01_k».proof.Proof.IdealBody

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The kernel's own semaphores, one per slot. -/
abbrev osem : Fin 4 → SemLoc sig := fun s => .dma (csm s).sem
theorem ownSemFacts : Pipeline.OwnSemFacts spec0 osem := by decide

/-! ## Element sets -/

abbrev rowSet (b : Fin 16) : Finset S4096x4096.Idx := (Rect.unit (s := S4096x4096) (rowOff b) S256x4096.size (rowOff_inb b)).set
abbrev slotSet (s : Fin 4) : Finset S4x256x4096.Idx := (srect s).set

omit [FloatOps F] in
theorem qblk_set (b : Fin 16) : (qblk b : Memref sig .tc .hbm _ _).view.set = rowSet b := View.set_slice_whole _ _
omit [FloatOps F] in
theorem tblk_set (b : Fin 16) : (tblk b : Memref sig .tc .hbm _ _).view.set = rowSet b := View.set_slice_whole _ _
omit [FloatOps F] in
theorem rslot_set (s : Fin 4) : (rslot s : Memref sig .tc .vmem _ _).view.set = slotSet s := (View.set_reshape _ _).trans (View.set_slice_whole _ _)

theorem mem_rowSet (b : Fin 16) (y : S4096x4096.Idx) : y ∈ rowSet b ↔ (y 0).val / 256 = b.val := by
  rw [Rect.mem_set_unit]
  have h1 : (y 1).val < 4096 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 4096; omega
theorem mem_slotSet (s : Fin 4) (y : S4x256x4096.Idx) : y ∈ slotSet s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem rowSet_disjoint : ∀ b b' : Fin 16, b ≠ b' → Disjoint (rowSet b) (rowSet b') := by
  intro b b' hne; rw [Finset.disjoint_left]; intro y hy hy'; rw [mem_rowSet] at hy hy'; exact hne (Fin.ext (hy.symm.trans hy'))
theorem rowSet_cover : (Finset.univ : Finset (Fin 16)).biUnion rowSet = Finset.univ := by
  ext y; simp only [Finset.mem_biUnion, Finset.mem_univ, true_and, iff_true]
  have h0 : (y 0).val < 4096 := (y 0).isLt
  exact ⟨⟨(y 0).val / 256, by omega⟩, by rw [mem_rowSet]⟩
theorem slotSet_disjoint : ∀ s s' : Fin 4, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 4)).biUnion slotSet = Finset.univ := by
  ext y; simp only [Finset.mem_biUnion, Finset.mem_univ, true_and, iff_true]; exact ⟨(y 0).cast (by decide), by rw [mem_slotSet]; rfl⟩

/-! ## The arrays, the ring and the semaphores whole -/

section Whole
variable (c : Dev nD) (XQ : Buf (Elt F) (qM.view.loc (c : Thread nD τ))) (XT : Buf (Elt F) (tM.view.loc (c : Thread nD τ)))

/-- `Q` whole is its sixteen blocks home. -/
theorem q_eq : (((c : Thread nD τ).loc main_arg0) ↦{fullShare} XQ : sProp 𝕄) = bigSep Finset.univ (homeQ c XQ) := by
  rw [Ring.pointsTo_blocks (ℓ := (c : Thread nD τ).loc main_arg0) rowSet rowSet_disjoint rowSet_cover]
  exact bigSep_congr fun b _ => by unfold homeQ; rw [← qblk_set]; rfl
/-- `AT` whole is its sixteen blocks home. -/
theorem t_eq : (((c : Thread nD τ).loc main_arg1) ↦{fullShare} XT : sProp 𝕄) = bigSep Finset.univ (homeT c XT) := by
  rw [Ring.pointsTo_blocks (ℓ := (c : Thread nD τ).loc main_arg1) rowSet rowSet_disjoint rowSet_cover]
  exact bigSep_congr fun b _ => by unfold homeT; rw [← tblk_set]; rfl

/-- The first sixteen steps, and the last sixteen. -/
def loStep : Fin 16 ↪ Fin 32 := ⟨fun b => ⟨b.val, by have := b.isLt; omega⟩, fun a b h => Fin.ext (by have := congrArg Fin.val h; simp only at this; omega)⟩
def hiStep : Fin 16 ↪ Fin 32 := ⟨fun b => ⟨16 + b.val, by have := b.isLt; omega⟩, fun a b h => Fin.ext (by have := congrArg Fin.val h; simp only at this; omega)⟩
theorem steps_univ : (Finset.univ : Finset (Fin 32)) = Finset.univ.map loStep ∪ Finset.univ.map hiStep := by decide
theorem steps_disj : Disjoint (Finset.univ.map loStep) (Finset.univ.map hiStep) := by decide

/-- All thirty-two steps home are `Q` and `AT` whole. -/
theorem homes_eq : bigSep Finset.univ (homeP c XQ XT)
    = (iprop((((c : Thread nD τ).loc main_arg0) ↦{fullShare} XQ) ∗ (((c : Thread nD τ).loc main_arg1) ↦{fullShare} XT)) : sProp 𝕄) := by
  have e1 : bigSep Finset.univ (fun b => homeP c XQ XT (loStep b)) = bigSep Finset.univ (homeQ c XQ) := bigSep_congr fun b _ => by
    rw [homeP_lo c XQ XT (show (loStep b).val < 16 from b.isLt)]
    exact congrArg (homeQ c XQ) (Fin.ext (Nat.mod_eq_of_lt b.isLt))
  have e2 : bigSep Finset.univ (fun b => homeP c XQ XT (hiStep b)) = bigSep Finset.univ (homeT c XT) := bigSep_congr fun b _ => by
    rw [homeP_hi c XQ XT (show ¬ (hiStep b).val < 16 from by show ¬ 16 + b.val < 16; omega)]
    exact congrArg (homeT c XT) (Fin.ext (by show (16 + b.val) % 16 = b.val; have := b.isLt; omega))
  rw [q_eq c XQ, t_eq c XT, steps_univ, bigSep_union steps_disj, bigSep_map, bigSep_map, e1, e2]
  rfl

omit [FloatOps F] in
theorem slotP_eq (s : Fin 4) (f) : slotP c s f = (((c : Thread nD τ).loc cc0_scratch0) ↦[slotSet s]{fullShare} f : sProp 𝕄) :=
  congrArg (fun S => (_ ↦[S]{fullShare} f : sProp 𝕄)) (rslot_set s)
/-- The ring buffer whole at anything is its four slots at anything, and back. -/
theorem buf_split :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H4 := (entails_of_eq ((Ring.pointsTo_blocks (Ix := Unit) (Name := ℕ) (U := UU nD τ) (Lvl := ℕ) (q := fullShare) (ℓ := (c : Thread nD τ).loc cc0_scratch0) slotSet slotSet_disjoint slotSet_cover f).trans (Ring.bigSep_fin4 _))) $$ H
  icases H4 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  · iexists f; iapply (entails_of_eq (slotP_eq c 3 f).symm); iexact H3
theorem buf_join :
    (iprop((∃ f, slotP c 0 f) ∗ (∃ f, slotP c 1 f) ∗ (∃ f, slotP c 2 f) ∗ ∃ f, slotP c 3 f) : sProp 𝕄)
      ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩⟩
  iapply (Ring.pointsTo_blocks_join_exists (ℓ := (c : Thread nD τ).loc cc0_scratch0) slotSet slotSet_disjoint slotSet_cover f0)
  irw [Ring.bigSep_fin4]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  · iexists f3; iapply (entails_of_eq (slotP_eq c 3 f3)); iexact H3

omit [FloatOps F] in
/-- The kernel's own semaphores at zero are the four slots' cells. -/
theorem ownSems0_eq : (Pipeline.ownSems0 (Ix := Unit) (Name := ℕ) (U := UU nD τ) (Lvl := ℕ) (Val := Elt F) (τ := τ) osem c : sProp 𝕄)
    = iprop(cellP c 0 ∗ cellP c 1 ∗ cellP c 2 ∗ cellP c 3) := by
  unfold Pipeline.ownSems0; rw [Ring.bigSep_fin4]

omit [FloatOps F] in
/-- The scratch column whole is its cell set. -/
theorem z_eq (z : Buf (Elt F) ((c : Thread nD τ).loc cc0_scratch1)) :
    (((c : Thread nD τ).loc cc0_scratch1) ↦{fullShare} z : sProp 𝕄) = zP c z :=
  (congrArg (fun S : Finset S4096x1.Idx => (((c : Thread nD τ).loc cc0_scratch1) ↦[S]{fullShare} z : sProp 𝕄)) (View.set_whole cc0_scratch1).symm)

end Whole

/-! ## A step's resources by the half it lies in -/

section Steps
variable (c : Dev nD) (XQ : Buf (Elt F) (qM.view.loc (c : Thread nD τ))) (XT : Buf (Elt F) (tM.view.loc (c : Thread nD τ)))

theorem home_q {k : ℕ} (h : k < 16) : homeP c XQ XT (Ring.bk 32 k) = homeQ c XQ (bk16 k) := by
  have e : (Ring.bk 32 k).val = k := Ring.bk_val (by omega)
  rw [homeP_lo c XQ XT (by rw [e]; exact h), e]
theorem home_t {k : ℕ} (h : 16 ≤ k) (h' : k < 32) : homeP c XQ XT (Ring.bk 32 k) = homeT c XT (bk16 k) := by
  have e : (Ring.bk 32 k).val = k := Ring.bk_val h'
  rw [homeP_hi c XQ XT (by rw [e]; omega), e]
theorem flight_q (s : Fin 4) {k : ℕ} (h : k < 16) (f) :
    flightP c XQ XT s (Ring.bk 32 k) f = flightW c s ((qblk (bk16 k)).view.read (Elt F) XQ) (homeQ c XQ (bk16 k)) f := by
  have e : (Ring.bk 32 k).val = k := Ring.bk_val (by omega)
  rw [flightP_lo c XQ XT s (by rw [e]; exact h), e]
theorem flight_t (s : Fin 4) {k : ℕ} (h : 16 ≤ k) (h' : k < 32) (f) :
    flightP c XQ XT s (Ring.bk 32 k) f = flightW c s ((tblk (bk16 k)).view.read (Elt F) XT) (homeT c XT (bk16 k)) f := by
  have e : (Ring.bk 32 k).val = k := Ring.bk_val h'
  rw [flightP_hi c XQ XT s (by rw [e]; omega), e]

end Steps

end Cert.Proof.Ideal

end
-- ==== Proof.IdealPoint.lean ====
/-
  The pipeline's proof data and the body obligation: what each staging buffer holds after each grid point, what the
  kernel's own buffers hold between points, and that every point's body keeps to it.
-/
module

public import proofs.«01_k».proof.Proof.IdealSets

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The values -/

abbrev XQ (c : Dev nD) : Buf (Elt F) (qM.view.loc (c : Thread nD τ)) := V m c main_arg0
abbrev XT (c : Dev nD) : Buf (Elt F) (tM.view.loc (c : Thread nD τ)) := V m c main_arg1
/-- The first point. -/
abbrev pt0 : Fin cfg0.N := ⟨0, by decide⟩
/-- The columns `x`, `y` and `c` as the kernel is handed them. -/
def Xc (c : Dev nD) : S4096x1.Idx → Elt F .f32 := iblk m c 0 pt0
def Yc (c : Dev nD) : S4096x1.Idx → Elt F .f32 := iblk m c 1 pt0
def Cc (c : Dev nD) : S4096x1.Idx → Elt F .f32 := iblk m c 2 pt0
theorem iblk_0 (c : Dev nD) (t : Fin cfg0.N) : iblk m c 0 t = Xc m c := rfl
theorem iblk_1 (c : Dev nD) (t : Fin cfg0.N) : iblk m c 1 t = Yc m c := rfl
theorem iblk_2 (c : Dev nD) (t : Fin cfg0.N) : iblk m c 2 t = Cc m c := rfl

/-- The first result's running value at point `16 + n`, and the second's. -/
def topV (c : Dev nD) (n : ℕ) : Elt F .f32 := topAt c (XQ m c) (XT m c) (Xc m c) (Yc m c) (Cc m c) n
def botV (c : Dev nD) : Elt F .f32 := k0_pay3 (Cc m c)

/-! ## Between points -/

/-- The ring before point `p`. -/
def ringAt (c : Dev nD) (p : ℕ) : sProp 𝕄 :=
  if p = 0 then Ring.At₀ (NB := 32) (cellP c) (slotP c) (homeP c (XQ m c) (XT m c))
  else Ring.At 3 (cellP c) (slotP c) (homeP c (XQ m c) (XT m c)) (flightP c (XQ m c) (XT m c)) p

/-- The region invariant before point `p`: the ring, the scratch column with the blocks of `Q x` computed so far, the
    generator register. -/
def Φ (c : Dev nD) (p : ℕ) : sProp 𝕄 :=
  iprop(ringAt m c p ∗ (∃ z, ⌜Zinv c (XQ m c) (Xc m c) p z⌝ ∗ zP c z) ∗ ∃ r, prngReg c r)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => topV m c (t.val - 16)
    | ⟨4, _⟩ => fun _ => botV m c
  Φ t := Φ m c t.val
  q _ := fullShare
  owed _ := 0

/-! ## The ring from one point to the next -/

abbrev ring0 (c : Dev nD) : sProp 𝕄 := Ring.At₀ (NB := 32) (cellP c) (slotP c) (homeP c (XQ m c) (XT m c))
abbrev ringP (c : Dev nD) (p : ℕ) : sProp 𝕄 := Ring.At 3 (cellP c) (slotP c) (homeP c (XQ m c) (XT m c)) (flightP c (XQ m c) (XT m c)) p
theorem ringAt_zero (c : Dev nD) {p : ℕ} (h : p = 0) : ringAt m c p = ring0 m c := if_pos h
theorem ringAt_pos (c : Dev nD) {p : ℕ} (h : p ≠ 0) : ringAt m c p = ringP m c p := if_neg h

/-- The first point takes the blocks of steps 0 to 3 and every slot, and gives back step 0's block and slot and three flights. -/
theorem ring_first (c : Dev nD) (k : ℕ) (hk : k = 0) :
    ringAt m c k ⊢ iprop(homeP c (XQ m c) (XT m c) (Ring.bk 32 0) ∗ homeP c (XQ m c) (XT m c) (Ring.bk 32 1)
      ∗ homeP c (XQ m c) (XT m c) (Ring.bk 32 2) ∗ homeP c (XQ m c) (XT m c) (Ring.bk 32 (k + 3))
      ∗ (∃ f, slotP c (Ring.sl 4 0) f) ∗ (∃ f, slotP c (Ring.sl 4 1) f) ∗ (∃ f, slotP c (Ring.sl 4 2) f) ∗ (∃ f, slotP c (Ring.sl 4 (k + 3)) f)
      ∗ cellP c (Ring.sl 4 0) ∗ cellP c (Ring.sl 4 1) ∗ cellP c (Ring.sl 4 2) ∗ cellP c (Ring.sl 4 (k + 3))
      ∗ ((homeP c (XQ m c) (XT m c) (Ring.bk 32 k) ∗ (∃ f, slotP c (Ring.sl 4 k) f) ∗ cellP c (Ring.sl 4 k)
          ∗ (∃ f, flightP c (XQ m c) (XT m c) (Ring.sl 4 1) (Ring.bk 32 1) f) ∗ (∃ f, flightP c (XQ m c) (XT m c) (Ring.sl 4 2) (Ring.bk 32 2) f)
          ∗ ∃ f, flightP c (XQ m c) (XT m c) (Ring.sl 4 (k + 3)) (Ring.bk 32 (k + 3)) f) -∗ ringAt m c (k + 1))) := by
  subst hk
  rw [ringAt_zero m c rfl, ringAt_pos m c (Nat.succ_ne_zero 0)]
  unfold ring0 ringP
  rw [Ring.At₀_eq4' (homeP c (XQ m c) (XT m c)) (cellP c) (slotP c) 0 rfl (by decide),
    Ring.At4_one' (homeP c (XQ m c) (XT m c)) (cellP c) (slotP c) (flightP c (XQ m c) (XT m c)) 0 rfl (by decide)]
  iintro ⟨⟨H0, H1, H2, H3, Hr⟩, ⟨Hc0, Hs0⟩, ⟨Hc1, Hs1⟩, ⟨Hc2, Hs2⟩, ⟨Hc3, Hs3⟩⟩
  isplitl [H0]; · iexact H0
  isplitl [H1]; · iexact H1
  isplitl [H2]; · iexact H2
  isplitl [H3]; · iexact H3
  isplitl [Hs0]; · iexact Hs0
  isplitl [Hs1]; · iexact Hs1
  isplitl [Hs2]; · iexact Hs2
  isplitl [Hs3]; · iexact Hs3
  isplitl [Hc0]; · iexact Hc0
  isplitl [Hc1]; · iexact Hc1
  isplitl [Hc2]; · iexact Hc2
  isplitl [Hc3]; · iexact Hc3
  iintro ⟨H0, Hs0, Hc0, HF1, HF2, HF3⟩
  isplitl [H0 Hr]
  · isplitl [H0]; · iexact H0
    iexact Hr
  isplitl [HF1]; · iexact HF1
  isplitl [HF2]; · iexact HF2
  isplitl [HF3]; · iexact HF3
  isplitl [Hc0]; · iexact Hc0
  iexact Hs0

/-- A point that issues a step: it takes that step's block and slot and its own step's flight. -/
theorem ring_step (c : Dev nD) (k : ℕ) (hk : k ≠ 0) (h : k + 3 < 32) :
    ringAt m c k ⊢ iprop((∃ f, flightP c (XQ m c) (XT m c) (Ring.sl 4 k) (Ring.bk 32 k) f) ∗ homeP c (XQ m c) (XT m c) (Ring.bk 32 (k + 3))
      ∗ (∃ f, slotP c (Ring.sl 4 (k + 3)) f) ∗ cellP c (Ring.sl 4 (k + 3))
      ∗ ((homeP c (XQ m c) (XT m c) (Ring.bk 32 k) ∗ (∃ f, slotP c (Ring.sl 4 k) f) ∗ cellP c (Ring.sl 4 k)
          ∗ ∃ f, flightP c (XQ m c) (XT m c) (Ring.sl 4 (k + 3)) (Ring.bk 32 (k + 3)) f) -∗ ringAt m c (k + 1))) := by
  rw [ringAt_pos m c hk, ringAt_pos m c (Nat.succ_ne_zero k)]
  unfold ringP
  rw [Ring.At4_here _ _ _ _ k h, Ring.At4_next _ _ _ _ k h, Ring.slotAt4_next0 _ _ _ k (by omega), Ring.slotAt4_next1 _ _ _ k (by omega),
    Ring.slotAt4_next2 _ _ _ k h]
  iintro ⟨⟨H3, Hr⟩, HF, HF1, HF2, ⟨Hc3, Hs3⟩⟩
  isplitl [HF]; · iexact HF
  isplitl [H3]; · iexact H3
  isplitl [Hs3]; · iexact Hs3
  isplitl [Hc3]; · iexact Hc3
  iintro ⟨H0, Hs0, Hc0, HF3⟩
  isplitl [H0 Hr]
  · isplitl [H0]; · iexact H0
    iexact Hr
  isplitl [HF1]; · iexact HF1
  isplitl [HF2]; · iexact HF2
  isplitl [HF3]; · iexact HF3
  isplitl [Hc0]; · iexact Hc0
  iexact Hs0

/-- One of the last three points: it takes its own step's flight only. -/
theorem ring_tail (c : Dev nD) (k : ℕ) (hk : 32 ≤ k + 3) (h : k < 32) :
    ringAt m c k ⊢ iprop((∃ f, flightP c (XQ m c) (XT m c) (Ring.sl 4 k) (Ring.bk 32 k) f)
      ∗ ((homeP c (XQ m c) (XT m c) (Ring.bk 32 k) ∗ (∃ f, slotP c (Ring.sl 4 k) f) ∗ cellP c (Ring.sl 4 k)) -∗ ringAt m c (k + 1))) := by
  rw [ringAt_pos m c (by omega), ringAt_pos m c (Nat.succ_ne_zero k)]
  unfold ringP
  rw [Ring.At4_here_tail _ _ _ _ k h, Ring.At4_next_tail _ _ _ _ k hk h, Ring.slotAt4_tail_role, Ring.slotAt4_tail_role1]
  iintro ⟨Hr, HF, HF1, HF2, Hf⟩
  isplitl [HF]; · iexact HF
  iintro ⟨H0, Hs0, Hc0⟩
  isplitl [H0 Hr]
  · isplitl [H0]; · iexact H0
    iexact Hr
  isplitl [HF1]; · iexact HF1
  isplitl [HF2]; · iexact HF2
  isplitl [Hf]; · iexact Hf
  isplitl [Hc0]; · iexact Hc0
  iexact Hs0

/-! ## What the staging buffers hold -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = fun _ => topV m c (t.val - 16) := by dsimp only [dats]
theorem after_4 (c : Dev nD) (t : Fin cfg0.N) : (dats m 0 c).after 4 t = fun _ => botV m c := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rfl) t d).trans
    (by unfold Dat.fetched Dat.blockOf iblk; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rfl) t d).trans
    (by unfold Dat.fetched Dat.blockOf iblk; rfl)

/-- A grid point's number is its coordinate. -/
theorem coord_val : ∀ t : Fin cfg0.N, (cfg0.grid.coords t 0).val = t.val := by decide +kernel

theorem idle3_lo : ∀ t : Fin cfg0.N, t.val < 16 → cfg0.idle 3 (cfg0.grid.coords t) = true := by decide +kernel
theorem idle3_hi : ∀ t : Fin cfg0.N, 16 ≤ t.val → cfg0.idle 3 (cfg0.grid.coords t) = false := by decide +kernel
theorem idle4_ne : ∀ t : Fin cfg0.N, t.val ≠ 16 → cfg0.idle 4 (cfg0.grid.coords t) = true := by decide +kernel
theorem idle4_eq : ∀ t : Fin cfg0.N, t.val = 16 → cfg0.idle 4 (cfg0.grid.coords t) = false := by decide +kernel
theorem fresh3 : ∀ t : Fin cfg0.N, 16 < t.val → cfg0.fresh 3 t.val = false := by decide +kernel
theorem fresh4 : ∀ t : Fin cfg0.N, 16 < t.val → cfg0.fresh 4 t.val = false := by decide +kernel
theorem flush3_no (t : Fin cfg0.N) (h : t.val < 31) : (cfg0.win 3).flush t = false :=
  Bool.eq_false_iff.mpr fun e => by have := (flush0_3 t).mp e; omega
theorem flush4_no (t : Fin cfg0.N) (h : t.val < 31) : (cfg0.win 4).flush t = false :=
  Bool.eq_false_iff.mpr fun e => by have := (flush0_4 t).mp e; omega
theorem flush4_yes (t : Fin cfg0.N) (h : t.val = 31) : (cfg0.win 4).flush t = true :=
  (flush0_4 t).mpr (by omega)

theorem before_3 (c : Dev nD) (t : Fin cfg0.N) (h : 16 < t.val) (d) :
    (dats m 0 c).before 3 t d = fun _ => topV m c (t.val - 17) := by
  rw [(dats m 0 c).before_out_traj 3 rfl (fun _ _ => rfl) (fun t h0 hi _ => by
      rw [after_3, after_3]
      by_cases h : 16 ≤ t.val
      · rw [idle3_hi t h] at hi; cases hi
      · show (fun _ => topV m c (t.val - 16)) = fun _ => topV m c (t.val - 1 - 16)
        rw [show t.val - 16 = 0 by omega, show t.val - 1 - 16 = 0 by omega]) t.val t rfl d,
    fresh3 t h, after_3]
  rw [if_neg (by decide)]
  show (fun _ => topV m c (t.val - 1 - 16)) = _
  rw [show t.val - 1 - 16 = t.val - 17 by omega]
theorem before_4 (c : Dev nD) (t : Fin cfg0.N) (h : 16 < t.val) (d) :
    (dats m 0 c).before 4 t d = fun _ => botV m c := by
  rw [(dats m 0 c).before_out_traj 4 rfl (fun _ _ => rfl) (fun t h0 hi _ => by
      rw [after_4, after_4]) t.val t rfl d,
    fresh4 t h, after_4]
  rw [if_neg (by decide)]

/-! ## The body obligation -/

theorem prog_eq (t : Fin cfg0.N) : (defs₀ (F := F)) .tc cfg0.body (cfg0.bodyArgs t (cfg0.slots t)) = bodyAt0 t := rfl

/-- Point 16 stores block 0's part; -/
theorem top_start (c : Dev nD) (t : Fin cfg0.N) (h : t.val = 16) :
    part c (XQ m c) (XT m c) (Xc m c) (Yc m c) (Cc m c) (bk16 (grid0.coords t 0).val) = topV m c (t.val - 16) := by
  rw [show (grid0.coords t 0).val = t.val from coord_val t, h]; rfl
/-- a later point adds its block's part. -/
theorem top_next (c : Dev nD) (t : Fin cfg0.N) (h : 16 < t.val) :
    Scalar.addf (topV m c (t.val - 17)) (part c (XQ m c) (XT m c) (Xc m c) (Yc m c) (Cc m c) (bk16 (grid0.coords t 0).val)) = topV m c (t.val - 16) := by
  have hlt : t.val < 32 := t.isLt
  rw [show (grid0.coords t 0).val = t.val from coord_val t, show t.val - 16 = (t.val - 17) + 1 by omega]
  unfold topV
  rw [topAt, show bk16 t.val = bk16 (t.val - 17 + 1) from Fin.ext (by show t.val % 16 = (t.val - 17 + 1) % 16; omega)]

/-- What the body must leave after point `t`. -/
abbrev PostAt (c : Dev nD) (t : Fin cfg0.N) : sProp 𝕄 :=
  iprop((dats (F := F) m 0 c).Φ t.succ ∗ (dats (F := F) m 0 c).owesAt () t.succ
    ∗ bigSep Finset.univ fun w : Fin cfg0.W =>
        match cfg0.idle w (cfg0.grid.coords t) with
        | true =>
          match (cfg0.win w).flush t with
          | false => iprop(∃ d, owns (c : Thread nD τ) ((cfg0.win w).stage (cfg0.slots t w)) fullShare ((dats (F := F) m 0 c).before w t d))
          | true => owns (c : Thread nD τ) ((cfg0.win w).stage (cfg0.slots t w)) fullShare ((dats (F := F) m 0 c).after w t)
        | false => owns (c : Thread nD τ) ((cfg0.win w).stage (cfg0.slots t w)) fullShare ((dats (F := F) m 0 c).after w t))

set_option backward.isDefEq.respectTransparency.types false in
/-- The obligation at the first point. -/
theorem obl_first (c : Dev nD) (t : Fin cfg0.N) (h0 : t.val = 0) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp Idealize.ShloMosaic.frame (wpE (defs₀ (F := F)) 𝒱₀ (c : Thread nD τ) none) Set.univ (bodyAt0 t) fun _ => PostAt m c t := by
  have hk : (grid0.coords t 0).val = t.val := coord_val t
  have hlt : t.val < 32 := t.isLt
  unfold PostAt
  rw [bigSep_W0, bigSep_W0]
  simp only [before_0, before_1, before_2, after_0, after_1, after_2, after_3, after_4]
  unfold Dat.owesAt Pipeline.owesWithin
  rw [show (dats m 0 c).Φ t.castSucc = Φ m c (grid0.coords t 0).val from congrArg (Φ m c) hk.symm,
    show (dats m 0 c).Φ t.succ = Φ m c ((grid0.coords t 0).val + 1) from congrArg (fun n => Φ m c (n + 1)) hk.symm,
    show (dats m 0 c).owed t.castSucc = 0 from rfl, show (dats m 0 c).owed t.succ = 0 from rfl]
  unfold Φ
  have e3 : idle0 3 (grid0.coords t) = true := idle3_lo t (by omega)
  have e4 : idle0 4 (grid0.coords t) = true := idle4_ne t (by omega)
  have f3 : (win0 3).flush t = false := flush3_no t (by omega)
  have f4 : (win0 4).flush t = false := flush4_no t (by omega)
  rw [e3, e4, f3, f4]
  dsimp only
  have R := ring_first m c (grid0.coords t 0).val (by omega)
  rw [home_q c _ _ (show 0 < 16 by decide), home_q c _ _ (show 1 < 16 by decide), home_q c _ _ (show 2 < 16 by decide), home_q c _ _ (show (grid0.coords t 0).val + 3 < 16 by omega), home_q c _ _ (show (grid0.coords t 0).val < 16 by omega)] at R
  simp only [flight_q c _ _ _ (show 1 < 16 by decide), flight_q c _ _ _ (show 2 < 16 by decide), flight_q c _ _ _ (show (grid0.coords t 0).val + 3 < 16 by omega)] at R
  iintro ⟨⟨HR, ⟨%z, %hz, Hz⟩, Hg⟩, ⟨%W, -, HW⟩, ⟨%d0, H0⟩, ⟨%d1, H1⟩, ⟨%d2, H2⟩, ⟨%d3, H3⟩, ⟨%d4, H4⟩⟩
  ihave HR := R $$ HR
  icases HR with ⟨Hh0, Hh1, Hh2, Hh3, ⟨%f0, Hs0⟩, ⟨%f1, Hs1⟩, ⟨%f2, Hs2⟩, ⟨%f3', Hs3⟩, Hc0, Hc1, Hc2, Hc3, Hk⟩
  iapply (run_first c (XQ m c) (Xc m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (by omega) z W f0 f1 f2 f3')
  isplitl [H0 Hz Hh0 Hh1 Hh2 Hh3 Hs0 Hs1 Hs2 Hs3 Hc0 Hc1 Hc2 Hc3 HW]
  · isplitl [H0]; · iexact H0
    isplitl [Hz]; · iexact Hz
    isplitl [Hh0]; · iexact Hh0
    isplitl [Hh1]; · iexact Hh1
    isplitl [Hh2]; · iexact Hh2
    isplitl [Hh3]; · iexact Hh3
    isplitl [Hs0]; · iexact Hs0
    isplitl [Hs1]; · iexact Hs1
    isplitl [Hs2]; · iexact Hs2
    isplitl [Hs3]; · iexact Hs3
    isplitl [Hc0]; · iexact Hc0
    isplitl [Hc1]; · iexact Hc1
    isplitl [Hc2]; · iexact Hc2
    isplitl [Hc3]; · iexact Hc3
    iexact HW
  iintro ⟨H0, Hz, Hh, Hs, Hc, HF1, HF2, HF, ⟨%W', HW⟩⟩
  isplitl [Hz Hh Hs Hc HF1 HF2 HF Hk Hg]
  · isplitl [Hh Hs Hc HF1 HF2 HF Hk]
    · iapply Hk
      isplitl [Hh]; · iexact Hh
      isplitl [Hs]; · iexact Hs
      isplitl [Hc]; · iexact Hc
      isplitl [HF1]; · iexact HF1
      isplitl [HF2]; · iexact HF2
      iexact HF
    isplitl [Hz]; · iexact Hz
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexists d3; iexact H3
  iexists d4; iexact H4

set_option backward.isDefEq.respectTransparency.types false in
/-- The obligation at a point from 1 to 12. -/
theorem obl_q (c : Dev nD) (t : Fin cfg0.N) (h0 : t.val ≠ 0) (h : t.val + 3 < 16) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp Idealize.ShloMosaic.frame (wpE (defs₀ (F := F)) 𝒱₀ (c : Thread nD τ) none) Set.univ (bodyAt0 t) fun _ => PostAt m c t := by
  have hk : (grid0.coords t 0).val = t.val := coord_val t
  have hlt : t.val < 32 := t.isLt
  unfold PostAt
  rw [bigSep_W0, bigSep_W0]
  simp only [before_0, before_1, before_2, after_0, after_1, after_2, after_3, after_4]
  unfold Dat.owesAt Pipeline.owesWithin
  rw [show (dats m 0 c).Φ t.castSucc = Φ m c (grid0.coords t 0).val from congrArg (Φ m c) hk.symm,
    show (dats m 0 c).Φ t.succ = Φ m c ((grid0.coords t 0).val + 1) from congrArg (fun n => Φ m c (n + 1)) hk.symm,
    show (dats m 0 c).owed t.castSucc = 0 from rfl, show (dats m 0 c).owed t.succ = 0 from rfl]
  unfold Φ
  have e3 : idle0 3 (grid0.coords t) = true := idle3_lo t (by omega)
  have e4 : idle0 4 (grid0.coords t) = true := idle4_ne t (by omega)
  have f3 : (win0 3).flush t = false := flush3_no t (by omega)
  have f4 : (win0 4).flush t = false := flush4_no t (by omega)
  rw [e3, e4, f3, f4]
  dsimp only
  have R := ring_step m c (grid0.coords t 0).val (by omega) (by omega)
  rw [home_q c _ _ (show (grid0.coords t 0).val < 16 by omega), home_q c _ _ (show (grid0.coords t 0).val + 3 < 16 by omega)] at R
  simp only [flight_q c _ _ _ (show (grid0.coords t 0).val < 16 by omega), flight_q c _ _ _ (show (grid0.coords t 0).val + 3 < 16 by omega)] at R
  iintro ⟨⟨HR, ⟨%z, %hz, Hz⟩, Hg⟩, ⟨%W, -, HW⟩, ⟨%d0, H0⟩, ⟨%d1, H1⟩, ⟨%d2, H2⟩, ⟨%d3, H3⟩, ⟨%d4, H4⟩⟩
  ihave HR := R $$ HR
  icases HR with ⟨⟨%f, HF⟩, Hh, ⟨%f', Hs⟩, Hc, Hk⟩
  iapply (run_q c (XQ m c) (Xc m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (by omega) (by omega) z hz W f f')
  isplitl [H0 Hz HF Hh Hs Hc HW]
  · isplitl [H0]; · iexact H0
    isplitl [Hz]; · iexact Hz
    isplitl [HF]; · iexact HF
    isplitl [Hh]; · iexact Hh
    isplitl [Hs]; · iexact Hs
    isplitl [Hc]; · iexact Hc
    iexact HW
  iintro ⟨H0, Hz, Hh, Hs, Hc, HF, ⟨%W', HW⟩⟩
  isplitl [Hz Hh Hs Hc HF Hk Hg]
  · isplitl [Hh Hs Hc HF Hk]
    · iapply Hk
      isplitl [Hh]; · iexact Hh
      isplitl [Hs]; · iexact Hs
      isplitl [Hc]; · iexact Hc
      iexact HF
    isplitl [Hz]; · iexact Hz
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexists d3; iexact H3
  iexists d4; iexact H4

set_option backward.isDefEq.respectTransparency.types false in
/-- The obligation at a point from 13 to 15. -/
theorem obl_qt (c : Dev nD) (t : Fin cfg0.N) (h0 : 16 ≤ t.val + 3) (h : t.val < 16) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp Idealize.ShloMosaic.frame (wpE (defs₀ (F := F)) 𝒱₀ (c : Thread nD τ) none) Set.univ (bodyAt0 t) fun _ => PostAt m c t := by
  have hk : (grid0.coords t 0).val = t.val := coord_val t
  have hlt : t.val < 32 := t.isLt
  unfold PostAt
  rw [bigSep_W0, bigSep_W0]
  simp only [before_0, before_1, before_2, after_0, after_1, after_2, after_3, after_4]
  unfold Dat.owesAt Pipeline.owesWithin
  rw [show (dats m 0 c).Φ t.castSucc = Φ m c (grid0.coords t 0).val from congrArg (Φ m c) hk.symm,
    show (dats m 0 c).Φ t.succ = Φ m c ((grid0.coords t 0).val + 1) from congrArg (fun n => Φ m c (n + 1)) hk.symm,
    show (dats m 0 c).owed t.castSucc = 0 from rfl, show (dats m 0 c).owed t.succ = 0 from rfl]
  unfold Φ
  have e3 : idle0 3 (grid0.coords t) = true := idle3_lo t (by omega)
  have e4 : idle0 4 (grid0.coords t) = true := idle4_ne t (by omega)
  have f3 : (win0 3).flush t = false := flush3_no t (by omega)
  have f4 : (win0 4).flush t = false := flush4_no t (by omega)
  rw [e3, e4, f3, f4]
  dsimp only
  have R := ring_step m c (grid0.coords t 0).val (by omega) (by omega)
  rw [home_q c _ _ (show (grid0.coords t 0).val < 16 by omega), home_t c _ _ (show 16 ≤ (grid0.coords t 0).val + 3 by omega) (show (grid0.coords t 0).val + 3 < 32 by omega)] at R
  simp only [flight_q c _ _ _ (show (grid0.coords t 0).val < 16 by omega), flight_t c _ _ _ (show 16 ≤ (grid0.coords t 0).val + 3 by omega) (show (grid0.coords t 0).val + 3 < 32 by omega)] at R
  iintro ⟨⟨HR, ⟨%z, %hz, Hz⟩, Hg⟩, ⟨%W, -, HW⟩, ⟨%d0, H0⟩, ⟨%d1, H1⟩, ⟨%d2, H2⟩, ⟨%d3, H3⟩, ⟨%d4, H4⟩⟩
  ihave HR := R $$ HR
  icases HR with ⟨⟨%f, HF⟩, Hh, ⟨%f', Hs⟩, Hc, Hk⟩
  iapply (run_qt c (XQ m c) (XT m c) (Xc m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (by omega) (by omega) z hz W f f')
  isplitl [H0 Hz HF Hh Hs Hc HW]
  · isplitl [H0]; · iexact H0
    isplitl [Hz]; · iexact Hz
    isplitl [HF]; · iexact HF
    isplitl [Hh]; · iexact Hh
    isplitl [Hs]; · iexact Hs
    isplitl [Hc]; · iexact Hc
    iexact HW
  iintro ⟨H0, Hz, Hh, Hs, Hc, HF, ⟨%W', HW⟩⟩
  isplitl [Hz Hh Hs Hc HF Hk Hg]
  · isplitl [Hh Hs Hc HF Hk]
    · iapply Hk
      isplitl [Hh]; · iexact Hh
      isplitl [Hs]; · iexact Hs
      isplitl [Hc]; · iexact Hc
      iexact HF
    isplitl [Hz]; · iexact Hz
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexists d3; iexact H3
  iexists d4; iexact H4

set_option backward.isDefEq.respectTransparency.types false in
/-- The obligation at point 16. -/
theorem obl_start (c : Dev nD) (t : Fin cfg0.N) (h : t.val = 16) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp Idealize.ShloMosaic.frame (wpE (defs₀ (F := F)) 𝒱₀ (c : Thread nD τ) none) Set.univ (bodyAt0 t) fun _ => PostAt m c t := by
  have hk : (grid0.coords t 0).val = t.val := coord_val t
  have hlt : t.val < 32 := t.isLt
  unfold PostAt
  rw [bigSep_W0, bigSep_W0]
  simp only [before_0, before_1, before_2, after_0, after_1, after_2, after_3, after_4]
  unfold Dat.owesAt Pipeline.owesWithin
  rw [show (dats m 0 c).Φ t.castSucc = Φ m c (grid0.coords t 0).val from congrArg (Φ m c) hk.symm,
    show (dats m 0 c).Φ t.succ = Φ m c ((grid0.coords t 0).val + 1) from congrArg (fun n => Φ m c (n + 1)) hk.symm,
    show (dats m 0 c).owed t.castSucc = 0 from rfl, show (dats m 0 c).owed t.succ = 0 from rfl]
  unfold Φ
  have e3 : idle0 3 (grid0.coords t) = false := idle3_hi t (by omega)
  have e4 : idle0 4 (grid0.coords t) = false := idle4_eq t (by omega)
  rw [e3, e4]
  dsimp only
  have R := ring_step m c (grid0.coords t 0).val (by omega) (by omega)
  rw [home_t c _ _ (show 16 ≤ (grid0.coords t 0).val by omega) (show (grid0.coords t 0).val < 32 by omega), home_t c _ _ (show 16 ≤ (grid0.coords t 0).val + 3 by omega) (show (grid0.coords t 0).val + 3 < 32 by omega)] at R
  simp only [flight_t c _ _ _ (show 16 ≤ (grid0.coords t 0).val by omega) (show (grid0.coords t 0).val < 32 by omega), flight_t c _ _ _ (show 16 ≤ (grid0.coords t 0).val + 3 by omega) (show (grid0.coords t 0).val + 3 < 32 by omega)] at R
  iintro ⟨⟨HR, ⟨%z, %hz, Hz⟩, Hg⟩, ⟨%W, -, HW⟩, ⟨%d0, H0⟩, ⟨%d1, H1⟩, ⟨%d2, H2⟩, ⟨%d3, H3⟩, ⟨%d4, H4⟩⟩
  have hz16 : Zinv c (XQ m c) (Xc m c) 16 z := hz.mono (fun b hb => by omega)
  ihave HR := R $$ HR
  icases HR with ⟨⟨%f, HF⟩, Hh, ⟨%f', Hs⟩, Hc, Hk⟩
  iapply (run_start c (XQ m c) (XT m c) (Xc m c) (Yc m c) (Cc m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (by omega) z hz16 W f f' _ _)
  isplitl [H1 H2 H3 H4 Hz HF Hh Hs Hc HW]
  · isplitl [H1]; · iexact H1
    isplitl [H2]; · iexact H2
    isplitl [H3]; · iexact H3
    isplitl [H4]; · iexact H4
    isplitl [Hz]; · iexact Hz
    isplitl [HF]; · iexact HF
    isplitl [Hh]; · iexact Hh
    isplitl [Hs]; · iexact Hs
    isplitl [Hc]; · iexact Hc
    iexact HW
  iintro ⟨H1, H2, H3, H4, Hz, Hh, Hs, Hc, HF, ⟨%W', HW⟩⟩
  isplitl [Hz Hh Hs Hc HF Hk Hg]
  · isplitl [Hh Hs Hc HF Hk]
    · iapply Hk
      isplitl [Hh]; · iexact Hh
      isplitl [Hs]; · iexact Hs
      isplitl [Hc]; · iexact Hc
      iexact HF
    isplitl [Hz]
    · iexists z; isplitr; · ipureintro; exact hz16.mono (fun b _ => b.isLt)
      iexact Hz
    iexact Hg
  isplitl [HW]
  · iexists W'; isplitr; · ipureintro; exact fun _ _ => Or.inl trivial
    iexact HW
  isplitl [H0]; · iexact H0
  isplitl [H1]; · iexact H1
  isplitl [H2]; · iexact H2
  isplitl [H3]
  · iapply (entails_of_eq (congrArg (owns (c : Thread nD τ) (win0_3.stage (cfg0.slots t 3)) fullShare) (funext fun _ => top_start m c t h))); iexact H3
  iexact H4

set_option backward.isDefEq.respectTransparency.types false in
/-- The obligation at a point from 17 to 28. -/
theorem obl_acc (c : Dev nD) (t : Fin cfg0.N) (h0 : 16 < t.val) (h : t.val + 3 < 32) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp Idealize.ShloMosaic.frame (wpE (defs₀ (F := F)) 𝒱₀ (c : Thread nD τ) none) Set.univ (bodyAt0 t) fun _ => PostAt m c t := by
  have hk : (grid0.coords t 0).val = t.val := coord_val t
  have hlt : t.val < 32 := t.isLt
  unfold PostAt
  rw [bigSep_W0, bigSep_W0]
  simp only [before_0, before_1, before_2, after_0, after_1, after_2, after_3, after_4]
  unfold Dat.owesAt Pipeline.owesWithin
  rw [show (dats m 0 c).Φ t.castSucc = Φ m c (grid0.coords t 0).val from congrArg (Φ m c) hk.symm,
    show (dats m 0 c).Φ t.succ = Φ m c ((grid0.coords t 0).val + 1) from congrArg (fun n => Φ m c (n + 1)) hk.symm,
    show (dats m 0 c).owed t.castSucc = 0 from rfl, show (dats m 0 c).owed t.succ = 0 from rfl]
  unfold Φ
  have e3 : idle0 3 (grid0.coords t) = false := idle3_hi t (by omega)
  have e4 : idle0 4 (grid0.coords t) = true := idle4_ne t (by omega)
  have f4 : (win0 4).flush t = false := flush4_no t (by omega)
  rw [e3, e4, f4]
  dsimp only
  have R := ring_step m c (grid0.coords t 0).val (by omega) (by omega)
  rw [home_t c _ _ (show 16 ≤ (grid0.coords t 0).val by omega) (show (grid0.coords t 0).val < 32 by omega), home_t c _ _ (show 16 ≤ (grid0.coords t 0).val + 3 by omega) (show (grid0.coords t 0).val + 3 < 32 by omega)] at R
  simp only [flight_t c _ _ _ (show 16 ≤ (grid0.coords t 0).val by omega) (show (grid0.coords t 0).val < 32 by omega), flight_t c _ _ _ (show 16 ≤ (grid0.coords t 0).val + 3 by omega) (show (grid0.coords t 0).val + 3 < 32 by omega)] at R
  simp only [before_3 m c t (by omega), before_4 m c t (by omega)]
  iintro ⟨⟨HR, ⟨%z, %hz, Hz⟩, Hg⟩, ⟨%W, -, HW⟩, ⟨%d0, H0⟩, ⟨%d1, H1⟩, ⟨%d2, H2⟩, ⟨%d3, H3⟩, ⟨%d4, H4⟩⟩
  have hz16 : Zinv c (XQ m c) (Xc m c) 16 z := hz.mono (fun b hb => by omega)
  ihave HR := R $$ HR
  icases HR with ⟨⟨%f, HF⟩, Hh, ⟨%f', Hs⟩, Hc, Hk⟩
  iapply (run_acc c (XQ m c) (XT m c) (Xc m c) (Yc m c) (Cc m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (by omega) (by omega) z hz16 W f f' (topV m c (t.val - 17)))
  isplitl [H1 H2 H3 Hz HF Hh Hs Hc HW]
  · isplitl [H1]; · iexact H1
    isplitl [H2]; · iexact H2
    isplitl [H3]; · iexact H3
    isplitl [Hz]; · iexact Hz
    isplitl [HF]; · iexact HF
    isplitl [Hh]; · iexact Hh
    isplitl [Hs]; · iexact Hs
    isplitl [Hc]; · iexact Hc
    iexact HW
  iintro ⟨H1, H2, H3, Hz, Hh, Hs, Hc, HF, ⟨%W', HW⟩⟩
  isplitl [Hz Hh Hs Hc HF Hk Hg]
  · isplitl [Hh Hs Hc HF Hk]
    · iapply Hk
      isplitl [Hh]; · iexact Hh
      isplitl [Hs]; · iexact Hs
      isplitl [Hc]; · iexact Hc
      iexact HF
    isplitl [Hz]
    · iexists z; isplitr; · ipureintro; exact hz16.mono (fun b _ => b.isLt)
      iexact Hz
    iexact Hg
  isplitl [HW]
  · iexists W'; isplitr; · ipureintro; exact fun _ _ => Or.inl trivial
    iexact HW
  isplitl [H0]; · iexact H0
  isplitl [H1]; · iexact H1
  isplitl [H2]; · iexact H2
  isplitl [H3]
  · iapply (entails_of_eq (congrArg (owns (c : Thread nD τ) (win0_3.stage (cfg0.slots t 3)) fullShare) (funext fun _ => top_next m c t (by omega)))); iexact H3
  iexists d4; iexact H4

set_option backward.isDefEq.respectTransparency.types false in
/-- The obligation at points 29 and 30. -/
theorem obl_tail (c : Dev nD) (t : Fin cfg0.N) (h0 : 32 ≤ t.val + 3) (h : t.val < 31) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp Idealize.ShloMosaic.frame (wpE (defs₀ (F := F)) 𝒱₀ (c : Thread nD τ) none) Set.univ (bodyAt0 t) fun _ => PostAt m c t := by
  have hk : (grid0.coords t 0).val = t.val := coord_val t
  have hlt : t.val < 32 := t.isLt
  unfold PostAt
  rw [bigSep_W0, bigSep_W0]
  simp only [before_0, before_1, before_2, after_0, after_1, after_2, after_3, after_4]
  unfold Dat.owesAt Pipeline.owesWithin
  rw [show (dats m 0 c).Φ t.castSucc = Φ m c (grid0.coords t 0).val from congrArg (Φ m c) hk.symm,
    show (dats m 0 c).Φ t.succ = Φ m c ((grid0.coords t 0).val + 1) from congrArg (fun n => Φ m c (n + 1)) hk.symm,
    show (dats m 0 c).owed t.castSucc = 0 from rfl, show (dats m 0 c).owed t.succ = 0 from rfl]
  unfold Φ
  have e3 : idle0 3 (grid0.coords t) = false := idle3_hi t (by omega)
  have e4 : idle0 4 (grid0.coords t) = true := idle4_ne t (by omega)
  have f4 : (win0 4).flush t = false := flush4_no t (by omega)
  rw [e3, e4, f4]
  dsimp only
  have R := ring_tail m c (grid0.coords t 0).val (by omega) (by omega)
  rw [home_t c _ _ (show 16 ≤ (grid0.coords t 0).val by omega) (show (grid0.coords t 0).val < 32 by omega)] at R
  simp only [flight_t c _ _ _ (show 16 ≤ (grid0.coords t 0).val by omega) (show (grid0.coords t 0).val < 32 by omega)] at R
  simp only [before_3 m c t (by omega), before_4 m c t (by omega)]
  iintro ⟨⟨HR, ⟨%z, %hz, Hz⟩, Hg⟩, ⟨%W, -, HW⟩, ⟨%d0, H0⟩, ⟨%d1, H1⟩, ⟨%d2, H2⟩, ⟨%d3, H3⟩, ⟨%d4, H4⟩⟩
  have hz16 : Zinv c (XQ m c) (Xc m c) 16 z := hz.mono (fun b hb => by omega)
  ihave HR := R $$ HR
  icases HR with ⟨⟨%f, HF⟩, Hk⟩
  iapply (run_tail c (XQ m c) (XT m c) (Xc m c) (Yc m c) (Cc m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (by omega) z hz16 W f (topV m c (t.val - 17)))
  isplitl [H1 H2 H3 Hz HF HW]
  · isplitl [H1]; · iexact H1
    isplitl [H2]; · iexact H2
    isplitl [H3]; · iexact H3
    isplitl [Hz]; · iexact Hz
    isplitl [HF]; · iexact HF
    iexact HW
  iintro ⟨H1, H2, H3, Hz, Hh, Hs, Hc, ⟨%W', HW⟩⟩
  isplitl [Hz Hh Hs Hc Hk Hg]
  · isplitl [Hh Hs Hc Hk]
    · iapply Hk
      isplitl [Hh]; · iexact Hh
      isplitl [Hs]; · iexact Hs
      iexact Hc
    isplitl [Hz]
    · iexists z; isplitr; · ipureintro; exact hz16.mono (fun b _ => b.isLt)
      iexact Hz
    iexact Hg
  isplitl [HW]
  · iexists W'; isplitr; · ipureintro; exact fun _ _ => Or.inl trivial
    iexact HW
  isplitl [H0]; · iexact H0
  isplitl [H1]; · iexact H1
  isplitl [H2]; · iexact H2
  isplitl [H3]
  · iapply (entails_of_eq (congrArg (owns (c : Thread nD τ) (win0_3.stage (cfg0.slots t 3)) fullShare) (funext fun _ => top_next m c t (by omega)))); iexact H3
  iexists d4; iexact H4

set_option backward.isDefEq.respectTransparency.types false in
/-- The obligation at the last point, which writes both results back. -/
theorem obl_last (c : Dev nD) (t : Fin cfg0.N) (h : t.val = 31) :
    iprop((dats (F := F) m 0 c).Φ t.castSucc ∗ (dats (F := F) m 0 c).owesAt () t.castSucc
        ∗ bigSep Finset.univ fun w : Fin cfg0.W => iprop(∃ d, owns c ((cfg0.win w).stage (cfg0.slots t w)) fullShare ((dats (F := F) m 0 c).before w t d)))
      ⊢ wp Idealize.ShloMosaic.frame (wpE (defs₀ (F := F)) 𝒱₀ (c : Thread nD τ) none) Set.univ (bodyAt0 t) fun _ => PostAt m c t := by
  have hk : (grid0.coords t 0).val = t.val := coord_val t
  have hlt : t.val < 32 := t.isLt
  unfold PostAt
  rw [bigSep_W0, bigSep_W0]
  simp only [before_0, before_1, before_2, after_0, after_1, after_2, after_3, after_4]
  unfold Dat.owesAt Pipeline.owesWithin
  rw [show (dats m 0 c).Φ t.castSucc = Φ m c (grid0.coords t 0).val from congrArg (Φ m c) hk.symm,
    show (dats m 0 c).Φ t.succ = Φ m c ((grid0.coords t 0).val + 1) from congrArg (fun n => Φ m c (n + 1)) hk.symm,
    show (dats m 0 c).owed t.castSucc = 0 from rfl, show (dats m 0 c).owed t.succ = 0 from rfl]
  unfold Φ
  have e3 : idle0 3 (grid0.coords t) = false := idle3_hi t (by omega)
  have e4 : idle0 4 (grid0.coords t) = true := idle4_ne t (by omega)
  have f4 : (win0 4).flush t = true := flush4_yes t (by omega)
  rw [e3, e4, f4]
  dsimp only
  have R := ring_tail m c (grid0.coords t 0).val (by omega) (by omega)
  rw [home_t c _ _ (show 16 ≤ (grid0.coords t 0).val by omega) (show (grid0.coords t 0).val < 32 by omega)] at R
  simp only [flight_t c _ _ _ (show 16 ≤ (grid0.coords t 0).val by omega) (show (grid0.coords t 0).val < 32 by omega)] at R
  simp only [before_3 m c t (by omega), before_4 m c t (by omega)]
  iintro ⟨⟨HR, ⟨%z, %hz, Hz⟩, Hg⟩, ⟨%W, -, HW⟩, ⟨%d0, H0⟩, ⟨%d1, H1⟩, ⟨%d2, H2⟩, ⟨%d3, H3⟩, ⟨%d4, H4⟩⟩
  have hz16 : Zinv c (XQ m c) (Xc m c) 16 z := hz.mono (fun b hb => by omega)
  ihave HR := R $$ HR
  icases HR with ⟨⟨%f, HF⟩, Hk⟩
  iapply (run_tail c (XQ m c) (XT m c) (Xc m c) (Yc m c) (Cc m c) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (by omega) z hz16 W f (topV m c (t.val - 17)))
  isplitl [H1 H2 H3 Hz HF HW]
  · isplitl [H1]; · iexact H1
    isplitl [H2]; · iexact H2
    isplitl [H3]; · iexact H3
    isplitl [Hz]; · iexact Hz
    isplitl [HF]; · iexact HF
    iexact HW
  iintro ⟨H1, H2, H3, Hz, Hh, Hs, Hc, ⟨%W', HW⟩⟩
  isplitl [Hz Hh Hs Hc Hk Hg]
  · isplitl [Hh Hs Hc Hk]
    · iapply Hk
      isplitl [Hh]; · iexact Hh
      isplitl [Hs]; · iexact Hs
      iexact Hc
    isplitl [Hz]
    · iexists z; isplitr; · ipureintro; exact hz16.mono (fun b _ => b.isLt)
      iexact Hz
    iexact Hg
  isplitl [HW]
  · iexists W'; isplitr; · ipureintro; exact fun _ _ => Or.inl trivial
    iexact HW
  isplitl [H0]; · iexact H0
  isplitl [H1]; · iexact H1
  isplitl [H2]; · iexact H2
  isplitl [H3]
  · iapply (entails_of_eq (congrArg (owns (c : Thread nD τ) (win0_3.stage (cfg0.slots t 3)) fullShare) (funext fun _ => top_next m c t (by omega)))); iexact H3
  iexact H4

theorem body_obligation (c : Dev nD) : BodyObligation (dats (F := F) m 0 c) (defs₀ (F := F)) 𝒱₀ () Set.univ := fun t => by
  have hlt : t.val < 32 := t.isLt
  rcases (show t.val = 0 ∨ (t.val ≠ 0 ∧ t.val + 3 < 16) ∨ (16 ≤ t.val + 3 ∧ t.val < 16) ∨ t.val = 16
      ∨ (16 < t.val ∧ t.val + 3 < 32) ∨ (32 ≤ t.val + 3 ∧ t.val < 31) ∨ t.val = 31 by omega) with h | ⟨h, h'⟩ | ⟨h, h'⟩ | h | ⟨h, h'⟩ | ⟨h, h'⟩ | h
  · exact obl_first m c t h
  · exact obl_q m c t h h'
  · exact obl_qt m c t h h'
  · exact obl_start m c t h
  · exact obl_acc m c t h h'
  · exact obl_tail m c t h h'
  · exact obl_last m c t h

end Cert.Proof.Ideal

end
-- ==== Proof.IdealRun.lean ====
/-
  The kernel's run from launch to end: what it is handed is the loop's start, what the loop ends with is handed back,
  and the host lines after it read the two results.
-/
module

public import proofs.«01_k».proof.Proof.IdealPoint
public import Idealize.ShloMosaic.Lib.Claim
public import Idealize.ShloMosaic.Lib.Pipeline.ValueKit.Geometry

@[expose] public section

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The two matrices the kernel moves itself. -/
abbrev moved : Finset (Ref sig .tc) := {main_arg0, main_arg1}
theorem moved_rest : moved ⊆ Pipeline.restRefs sig spec0 := by decide

/-- The two matrices whole, one by one. -/
theorem moved_eq (c : Dev nD) :
    (bigSep moved fun b => (((c : Thread nD τ).loc b) ↦{fullShare} V m c b) : sProp 𝕄)
      = iprop((((c : Thread nD τ).loc main_arg0) ↦{fullShare} XQ m c) ∗ (((c : Thread nD τ).loc main_arg1) ↦{fullShare} XT m c)) := by
  rw [bigSep_insert (by decide), bigSep_singleton]; rfl

/-- What the launch hands over is what the first point starts from. -/
theorem hin (c : Dev nD) :
    (Pipeline.ΦD osem spec0 moved (fun c b => V0 m c (Proc.devRef .tc b)) c : sProp 𝕄) ⊢ (dats m 0 c).Φ 0 := by
  show _ ⊢ Φ m c 0
  unfold Φ
  rw [Pipeline.ΦD_eq, scopedRest0_eq, ownSems0_eq, ringAt_zero m c rfl]
  unfold ring0 Ring.At₀
  rw [Ring.bigSep_fin4, homes_eq c (XQ m c) (XT m c)]
  unfold Ring.free
  iintro ⟨⟨Hbuf, ⟨%z, Hz⟩⟩, Hprng, ⟨Hc0, Hc1, Hc2, Hc3⟩, Hm⟩
  ihave Hs := (buf_split c) $$ Hbuf
  icases Hs with ⟨Hs0, Hs1, Hs2, Hs3⟩
  isplitl [Hm Hs0 Hs1 Hs2 Hs3 Hc0 Hc1 Hc2 Hc3]
  · isplitl [Hm]
    · iapply (entails_of_eq (moved_eq m c)); iexact Hm
    isplitl [Hc0 Hs0]
    · isplitl [Hc0]; · iexact Hc0
      iexact Hs0
    isplitl [Hc1 Hs1]
    · isplitl [Hc1]; · iexact Hc1
      iexact Hs1
    isplitl [Hc2 Hs2]
    · isplitl [Hc2]; · iexact Hc2
      iexact Hs2
    · isplitl [Hc3]; · iexact Hc3
      iexact Hs3
  isplitl [Hz]
  · iexists z
    isplitr
    · ipureintro; intro b hb; exact absurd hb (Nat.not_lt_zero _)
    · iapply (entails_of_eq (z_eq c z)); iexact Hz
  iexact Hprng

/-- What the last point ends with is what the launch takes back. -/
theorem hout (c : Dev nD) :
    (dats m 0 c).Φ (Fin.last cfg0.N) ⊢ (Pipeline.ΦD osem spec0 moved (fun c b => V0 m c (Proc.devRef .tc b)) c : sProp 𝕄) := by
  show Φ m c 32 ⊢ _
  unfold Φ
  rw [Pipeline.ΦD_eq, scopedRest0_eq, ownSems0_eq, ringAt_pos m c (by decide)]
  unfold ringP
  iintro ⟨HR, ⟨%z, -, Hz⟩, Hprng⟩
  ihave Hall := (Ring.free4_of_At_last (NB := 32) (homeP c (XQ m c) (XT m c)) (cellP c) (slotP c) (flightP c (XQ m c) (XT m c))) $$ HR
  icases Hall with ⟨Hm, ⟨Hc0, Hs0⟩, ⟨Hc1, Hs1⟩, ⟨Hc2, Hs2⟩, ⟨Hc3, Hs3⟩⟩
  isplitl [Hs0 Hs1 Hs2 Hs3 Hz]
  · isplitl [Hs0 Hs1 Hs2 Hs3]
    · iapply (buf_join c)
      isplitl [Hs0]; · iexact Hs0
      isplitl [Hs1]; · iexact Hs1
      isplitl [Hs2]; · iexact Hs2
      iexact Hs3
    · iexists z; iapply (entails_of_eq (z_eq c z).symm); iexact Hz
  isplitl [Hprng]; · iexact Hprng
  isplitl [Hc0 Hc1 Hc2 Hc3]
  · isplitl [Hc0]; · iexact Hc0
    isplitl [Hc1]; · iexact Hc1
    isplitl [Hc2]; · iexact Hc2
    iexact Hc3
  iapply (entails_of_eq ((homes_eq c (XQ m c) (XT m c)).trans (moved_eq m c).symm)); iexact Hm

/-! ## The host lines around the region -/

set_option maxHeartbeats 800000 in
/-- The host lines before the region, the region, the host lines after it. -/
theorem host_around : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch neither matrix. -/
theorem tail_sub : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  simp only [hostOps1, List.mem_cons, List.mem_nil_iff, or_false] at hop
  rcases hop with rfl | rfl | rfl | rfl | rfl
  all_goals
    intro b hb
    simp only [moved, Finset.mem_insert, Finset.mem_singleton] at hb
    rcases hb with rfl | rfl <;>
      simp only [StableHlo.nullary_bufs, StableHlo.binary_bufs, StableHlo.reshape_bufs, Finset.mem_insert, Finset.mem_singleton, not_or] <;>
      repeat' apply And.intro
    all_goals exact StableHlo.devRef_ne_of_ne (by decide)

/-- The contents of the buffers after the whole run. -/
abbrev W (c : Dev nD) (b : Ref sig .tc) : Buf (Elt F) ((c : Thread nD τ).loc b) :=
  Pipeline.afterTail₀ cfgs (dats m) 0 (V0 m) [hostOps1] c b

/-- The run: it ends with every array as `W` says and every counter at zero. -/
theorem launched : θ_run defs (onTc (τ := τ) (main (F := F))) (s₀ m ρ)
    (fun r => Pipeline.FramePost cfgs (dats m) 0 (W m) r ∧ r.2.sem = fun _ => 0) :=
  Pipeline.θ_run_frame_dma_around cfgs (dats m) 0 launch0 osem defs₀ 𝒱₀ ownSemFacts moved moved_rest m ρ main
    (fun c => (body_obligation m c).loose) (fun c w => (dats m 0 c).share_full (fun _ => rfl) w) (fun _ _ => rfl) (V0 m) [hostOps1]
    tail_sub sfx_fresh sfx_keeps (host_around m) (fun _ _ => rfl) (hin m) (hout m)
    (Q' := fun r => Pipeline.FramePost cfgs (dats m) 0 (W m) r ∧ r.2.sem = fun _ => 0) (hQ' := fun _ h => h)

/-! ## The arrays at the end -/

theorem W_arg0 (c : Dev nD) : W m c main_arg0 = m ((c : Thread nD τ).loc main_arg0) := by
  unfold W Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_arg1 (c : Dev nD) : W m c main_arg1 = m ((c : Thread nD τ).loc main_arg1) := by
  unfold W Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_arg2 (c : Dev nD) : W m c main_arg2 = m ((c : Thread nD τ).loc main_arg2) := by
  unfold W Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.binary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_arg3 (c : Dev nD) : W m c main_arg3 = m ((c : Thread nD τ).loc main_arg3) := by
  unfold W Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.binary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The last point. -/
abbrev ptLast : Fin cfg0.N := ⟨31, by decide⟩

/-- The first result's array at the end: the running value after the last point. -/
theorem top_final (c : Dev nD) : (dats m 0 c).arrAt 3 cfg0.N = fun _ => topV m c 15 :=
  (dats m 0 c).arrAt_eq_of_after_last 3 ptLast (by decide +kernel) _ fun _ => rfl
/-- The second result's array at the end. -/
theorem bot_final (c : Dev nD) : (dats m 0 c).arrAt 4 cfg0.N = fun _ => botV m c :=
  (dats m 0 c).arrAt_eq_of_after_last 4 ptLast (by decide +kernel) _ fun _ => rfl

/-- The result: the first running value over ten thousand plus the second. -/
def result (c : Dev nD) : Buf (Elt F) ((c : Thread nD τ).loc main_v5) :=
  Host.divf (F := F) (s := S_) (φ := .f32) (fun _ => topV m c 15) (addf (constant S_ .f32 0x461C4000#32) fun _ => botV m c)

theorem W_v5 (c : Dev nD) : W m c main_v5 = result m c := by
  unfold W Pipeline.afterTail₀
  rw [show ([hostOps1] : List (List (HloOp τ sig (Elt F)))).flatten = hostOps1 from List.append_nil _]
  have e3 : Pipeline.withArrays spec0 c (V0 m c) (fun w => (dats m 0 c).arrAt w cfg0.N) (Proc.devRef .tc main_v1_0) = fun _ => topV m c 15 :=
    (Pipeline.withArrays_arr spec0 launch0.win.arr_inj c (V0 m c) (fun w => (dats m 0 c).arrAt w cfg0.N) 3).trans (top_final m c)
  have e4 : Pipeline.withArrays spec0 c (V0 m c) (fun w => (dats m 0 c).arrAt w cfg0.N) (Proc.devRef .tc main_v1_1) = fun _ => botV m c :=
    (Pipeline.withArrays_arr spec0 launch0.win.arr_inj c (V0 m c) (fun w => (dats m 0 c).arrAt w cfg0.N) 4).trans (bot_final m c)
  unfold hostOps1
  after_results
  rw [e3, e4]
  rfl

/-- The whole run, at the arguments and the result. -/
theorem run : θ_run defs (onTc (τ := τ) (main (F := F))) ⟨m, fun _ => 0, ρ⟩ (fun r => (∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  (θ_run defs _ _).mono (fun _ h => ⟨fun c => ⟨
      ((h.1 c).2 main_v5 (Pipeline.mem_restRefs_of main_v5 (by decide) (by decide))).trans (W_v5 m c),
      ((h.1 c).2 main_arg0 (Pipeline.mem_restRefs_of main_arg0 (by decide) (by decide))).trans (W_arg0 m c),
      ((h.1 c).2 main_arg1 (Pipeline.mem_restRefs_of main_arg1 (by decide) (by decide))).trans (W_arg1 m c),
      ((h.1 c).2 main_arg2 (Pipeline.mem_restRefs_of main_arg2 (by decide) (by decide))).trans (W_arg2 m c),
      ((h.1 c).2 main_arg3 (Pipeline.mem_restRefs_of main_arg3 (by decide) (by decide))).trans (W_arg3 m c),
      ((h.1 c).1 0).trans (((dats m 0 c).arrAt_in 0 rfl _).trans (V_main_arg4 m c)),
      ((h.1 c).1 1).trans (((dats m 0 c).arrAt_in 1 rfl _).trans (V_main_arg5 m c))⟩, h.2⟩) (launched m ρ)

end Cert.Proof.Ideal

end
-- ==== Proof.IdealValue.lean ====
/-
  What the kernel computes, at exact arithmetic: the sum over the 4096 rows of `|AT y + Q x + c|`, taken sixteen blocks
  of 256 rows at a time, and the sum of `|c|`. Extended-real addition is commutative and associative, so the blocks
  regroup into the reference's one sum with nothing assumed of the arguments.
-/
module

public import proofs.«01_k».proof.Proof.IdealRun
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Pointwise.Sums
public import Idealize.ShloMosaic.Lib.Pointwise.Reshape
public import Idealize.ShloMosaic.Lib.Pipeline.Value

@[expose] public section

noncomputable section

namespace Cert.Proof.Value

open Cert.KernelIdeal Cert.KernelIdeal.Gen Cert.Proof.Ideal
open Idealize.ShloMosaic hiding ix1 ix2 eq_ix1 sum_idx2
open Idealize.ShloMosaic.ValueIdx
open Idealize.ShloMosaic.TcCoe
open scoped BigOperators

/-- The absolute value of an extended real. -/
abbrev ab (x : EReal) : EReal := max x (-x)

/-- Row `r` of a matrix times a column. -/
def dotRow {M : ℕ} (A : (⟨2, ![M, 4096]⟩ : Shape).Idx → EReal) (x : S4096x1.Idx → EReal) (r : Fin M) : EReal :=
  ∑ k : Fin 4096, A (ix2 r k) * x (ix2 k 0)

/-- Row `256 b + r`, of 4096. -/
abbrev gRow (b : Fin 16) (r : Fin 256) : Fin 4096 := ⟨b.val * 256 + r.val, by have := b.isLt; have := r.isLt; omega⟩

/-! ## The kernel's pure values, row by row -/

/-- A product of a block by a column is each row's inner product. -/
theorem matmul_row (q : S256x4096.Idx → EReal) (X : S4096x1.Idx → EReal) (r : Fin 256) :
    matmul (F := Ideal) (φ₁ := .f32) (φ₂ := .f32) dot_S256x4096_S4096x1_S256x1_1_0_0_1_n_n none
      (shapeCast S256x4096 (slab (F := Ideal) q) shapeCasts_S1x256x4096_S256x4096) X (constant S256x1 .f32 0x00000000#32) (ix2 r 0) = dotRow q X r := by
  rw [shapeCast_shapeCast]
  refine (Ideal.matmul_plain_apply (M := 256) (K := 4096) (N := 1) none q X _ r 0).trans ?_
  rw [ValueIdx.constant_apply, Ideal.ofBits_zero_f32, zero_add]; rfl

theorem pay1_row (q : S256x4096.Idx → EReal) (X : S4096x1.Idx → EReal) (r : Fin 256) :
    k0_pay1 (F := Ideal) (slab (F := Ideal) q) X (ix2 r 0) = dotRow q X r := by
  unfold k0_pay1
  rw [shapeCast_id]
  exact matmul_row q X r

/-- The total of a column, taken through a leading axis of one and read back as a scalar. -/
theorem total256 (w : S256x1.Idx → EReal) :
    extractAt ![0, 0, 0] (shapeCast S1x1x1 (multiReduction (F := Ideal) (φ := .f32) .add [1, 2] S1 (shapeCast S1x256x1 w shapeCasts_S256x1_S1x256x1)
      0x00000000#32 reduces_S1x256x1_S1 (.inl rfl) rfl) shapeCasts_S1_S1x1x1) inpos_S1x1x1_p0_0_0 = ∑ r : Fin 256, w (ix2 r 0) := by
  refine (Ideal.multiReduction_add_total (φ := .f32) _ 0x00000000#32 _ (by decide) (.inl rfl) rfl _).trans ?_
  refine (Equiv.sum_comp (Shape.reshapeEquiv shapeCasts_S256x1_S1x256x1) w).trans ?_
  refine (sum_idx2 (n0 := 256) (n1 := 1) w).trans ?_
  exact Finset.sum_congr rfl fun r _ => Fin.sum_univ_one _

theorem total4096 (w : S4096x1.Idx → EReal) :
    extractAt ![0, 0, 0] (shapeCast S1x1x1 (multiReduction (F := Ideal) (φ := .f32) .add [1, 2] S1 (shapeCast S1x4096x1 w shapeCasts_S4096x1_S1x4096x1)
      0x00000000#32 reduces_S1x4096x1_S1 (.inl rfl) rfl) shapeCasts_S1_S1x1x1) inpos_S1x1x1_p0_0_0 = ∑ r : Fin 4096, w (ix2 r 0) := by
  refine (Ideal.multiReduction_add_total (φ := .f32) _ 0x00000000#32 _ (by decide) (.inl rfl) rfl _).trans ?_
  refine (Equiv.sum_comp (Shape.reshapeEquiv shapeCasts_S4096x1_S1x4096x1) w).trans ?_
  refine (sum_idx2 (n0 := 4096) (n1 := 1) w).trans ?_
  exact Finset.sum_congr rfl fun r _ => Fin.sum_univ_one _

/-- A block's part of the first sum. -/
theorem pay2_eq (q : S256x4096.Idx → EReal) (Y : S4096x1.Idx → EReal) (Z C : S256x1.Idx → EReal) :
    k0_pay2 (F := Ideal) (slab (F := Ideal) q) Y Z C = ∑ r : Fin 256, ab (dotRow q Y r + Z (ix2 r 0) + C (ix2 r 0)) := by
  unfold k0_pay2
  refine (total256 _).trans (Finset.sum_congr rfl fun r _ => ?_)
  rw [shapeCast_id]
  show ab (matmul (F := Ideal) (φ₁ := .f32) (φ₂ := .f32) _ none _ Y _ (ix2 r 0) + Z (ix2 r 0) + C (ix2 r 0)) = _
  rw [matmul_row]

/-- The second sum. -/
theorem pay3_eq (C : S4096x1.Idx → EReal) : k0_pay3 (F := Ideal) C = ∑ r : Fin 4096, ab (C (ix2 r 0)) := by
  unfold k0_pay3
  refine (total4096 _).trans (Finset.sum_congr rfl fun r _ => ?_)
  rw [shapeCast_id]; rfl

/-! ## The blocks -/

section Blocks
variable (c : Dev nD) (XQ : Buf (Elt Ideal) (qM.view.loc (c : Thread nD τ))) (XT : Buf (Elt Ideal) (tM.view.loc (c : Thread nD τ)))
  (X Y C : S4096x1.Idx → EReal)

/-- Row `r` of block `b` of `Q` is row `256 b + r` of `Q`. -/
theorem qblk_row (b : Fin 16) (r : Fin 256) (k : Fin 4096) :
    (qblk b).view.read (Elt Ideal) XQ (ix2 r k) = (XQ : S4096x4096.Idx → EReal) (ix2 (gRow b r) k) := by
  show (XQ : S4096x4096.Idx → EReal) ((Rect.unit (s := S4096x4096) (rowOff b) S256x4096.size (rowOff_inb b)).idx (ix2 r k)) = _
  refine congrArg (XQ : S4096x4096.Idx → EReal) (Shape.idx_ext₂ ?_ ?_)
  · show 256 * b.val + 1 * r.val = b.val * 256 + r.val; omega
  · show 0 + 1 * k.val = k.val; omega

/-- The same of `AT`. -/
theorem tblk_row (b : Fin 16) (r : Fin 256) (k : Fin 4096) :
    (tblk b).view.read (Elt Ideal) XT (ix2 r k) = (XT : S4096x4096.Idx → EReal) (ix2 (gRow b r) k) := by
  show (XT : S4096x4096.Idx → EReal) ((Rect.unit (s := S4096x4096) (rowOff b) S256x4096.size (rowOff_inb b)).idx (ix2 r k)) = _
  refine congrArg (XT : S4096x4096.Idx → EReal) (Shape.idx_ext₂ ?_ ?_)
  · show 256 * b.val + 1 * r.val = b.val * 256 + r.val; omega
  · show 0 + 1 * k.val = k.val; omega

/-- Row `r` of block `b` of a column is the column's row `256 b + r`. -/
theorem rowsOf_row (b : Fin 16) (r : Fin 256) : rowsOf (F := Ideal) C b (ix2 r 0) = C (ix2 (gRow b r) 0) := by
  refine congrArg C (Shape.idx_ext₂ ?_ ?_)
  · show 256 * b.val + 1 * r.val = b.val * 256 + r.val; omega
  · rfl

/-- One row's term of the first sum. -/
def term (r : Fin 4096) : EReal := ab (dotRow (M := 4096) XT Y r + dotRow (M := 4096) XQ X r + C (ix2 r 0))

theorem part_eq (b : Fin 16) : part (F := Ideal) c XQ XT X Y C b = ∑ r : Fin 256, term c XQ XT X Y C (gRow b r) := by
  unfold part
  rw [pay2_eq]
  refine Finset.sum_congr rfl fun r _ => ?_
  unfold term zval
  rw [pay1_row, rowsOf_row]
  have hT : dotRow ((tblk b).view.read (Elt Ideal) XT) Y r = dotRow (M := 4096) XT Y (gRow b r) :=
    Finset.sum_congr rfl fun k _ => congrArg (· * Y (ix2 k 0)) (tblk_row c XT b r k)
  have hQ : dotRow ((qblk b).view.read (Elt Ideal) XQ) X r = dotRow (M := 4096) XQ X (gRow b r) :=
    Finset.sum_congr rfl fun k _ => congrArg (· * X (ix2 k 0)) (qblk_row c XQ b r k)
  rw [hT, hQ]

/-- The running value after `n + 1` blocks is the sum of their parts. -/
theorem topAt_eq (n : ℕ) : topAt (F := Ideal) c XQ XT X Y C n = ∑ b ∈ Finset.range (n + 1), part (F := Ideal) c XQ XT X Y C (bk16 b) := by
  induction n with
  | zero => rw [Finset.sum_range_one]; rfl
  | succ n ih => rw [Finset.sum_range_succ, ← ih]; rfl

/-- After the last block it is the sum over every row. -/
theorem topAt_last : topAt (F := Ideal) c XQ XT X Y C 15 = ∑ r : Fin 4096, term c XQ XT X Y C r := by
  rw [topAt_eq, Fin.sum_univ_tiles 16 256 (by decide), ← Fin.sum_univ_eq_sum_range (fun b => part (F := Ideal) c XQ XT X Y C (bk16 b)) 16]
  refine Finset.sum_congr rfl fun b _ => ?_
  rw [show bk16 b.val = b from Fin.ext (Nat.mod_eq_of_lt b.isLt), part_eq]

end Blocks

/-! ## The columns the kernel is handed -/

section Columns
variable (m : (ℓ : Loc nD τ sig) → Buf (Elt Ideal) ℓ) (c : Dev nD)

theorem Xc_eq : Xc (F := Ideal) m c = m ((c : Thread nD τ).loc main_arg4) := by
  rw [← V_main_arg4 (F := Ideal) m c]
  funext j
  refine congrArg (V (F := Ideal) m c main_arg4) (Shape.idx_ext₂ ?_ ?_)
  · exact Nat.zero_add _ |>.trans (Nat.one_mul _)
  · exact Nat.zero_add _ |>.trans (Nat.one_mul _)

theorem Yc_eq : Yc (F := Ideal) m c = m ((c : Thread nD τ).loc main_arg5) := by
  rw [← V_main_arg5 (F := Ideal) m c]
  funext j
  refine congrArg (V (F := Ideal) m c main_arg5) (Shape.idx_ext₂ ?_ ?_)
  · exact Nat.zero_add _ |>.trans (Nat.one_mul _)
  · exact Nat.zero_add _ |>.trans (Nat.one_mul _)

/-- The third is `c`, a vector, laid out as a column. -/
theorem V_v0 : V (F := Ideal) m c main_v0 = broadcastInDim S4096x1 ![0] bcast_S4096_S4096x1_0 (m ((c : Thread nD τ).loc main_arg3)) := by
  show StableHlo.after [StableHlo.unary main_arg3 main_v0 _] _ (Proc.devRef .tc main_v0) = _
  after_results

theorem Cc_eq : Cc (F := Ideal) m c = broadcastInDim S4096x1 ![0] bcast_S4096_S4096x1_0 (m ((c : Thread nD τ).loc main_arg3)) := by
  rw [← V_v0 m c]
  funext j
  refine congrArg (V (F := Ideal) m c main_v0) (Shape.idx_ext₂ ?_ ?_)
  · exact Nat.zero_add _ |>.trans (Nat.one_mul _)
  · exact Nat.zero_add _ |>.trans (Nat.one_mul _)

/-- Row `r` of that column is entry `r`. -/
theorem col_row (v : S4096.Idx → EReal) (r : Fin 4096) : broadcastInDim S4096x1 ![0] bcast_S4096_S4096x1_0 v (ix2 r 0) = v (ix1 r) := by
  refine broadcastInDim_apply _ _ v _ _ fun a => ?_
  have : a = 0 := Subsingleton.elim _ _
  subst this; rfl

end Columns

/-! ## The reference's two sums -/

section Reference
variable (Q T : S4096x4096.Idx → EReal) (x y : S4096x1.Idx → EReal) (v : S4096.Idx → EReal)

/-- A product of a matrix by a column on the host is each row's inner product. -/
theorem host_row (A : S4096x4096.Idx → EReal) (X : S4096x1.Idx → EReal) (r : Fin 4096) :
    Host.dotGeneral (F := Ideal) (φ₁ := .f32) (φ₂ := .f32) Cert.ReferenceIdeal.dot_S4096x4096_S4096x1_S4096x1_1_0_0_1_n_n none A X (ix2 r 0) = dotRow A X r :=
  StackMember.dotGeneral_plain_apply (m := 4096) (k := 4096) (n := 1) none A X r 0

/-- The host's total of a column. -/
theorem host_total2 (w : S4096x1.Idx → EReal) (h : S4096x1.ReducesTo [0, 1] S_) (hu : 0 < S_.numel) (j : S_.Idx) :
    Host.reduceAdd (F := Ideal) (φ := .f32) w (constant S_ .f32 0x00000000#32) h hu j = ∑ r : Fin 4096, w (ix2 r 0) := by
  rw [hostReduceAdd_apply, Ideal.hostReduceAdd_total h (fun b => b.elim0), ValueIdx.constant_apply, Ideal.ofBits_zero_f32, zero_add]
  refine (sum_idx2 (n0 := 4096) (n1 := 1) w).trans ?_
  exact Finset.sum_congr rfl fun r _ => Fin.sum_univ_one _

/-- The host's total of a vector. -/
theorem host_total1 (w : S4096.Idx → EReal) (h : S4096.ReducesTo [0] S_) (hu : 0 < S_.numel) (j : S_.Idx) :
    Host.reduceAdd (F := Ideal) (φ := .f32) w (constant S_ .f32 0x00000000#32) h hu j = ∑ r : Fin 4096, w (ix1 r) := by
  rw [hostReduceAdd_apply, Ideal.hostReduceAdd_total h (fun b => b.elim0), ValueIdx.constant_apply, Ideal.ofBits_zero_f32, zero_add]
  refine Fintype.sum_equiv ⟨fun i => i 0, fun r => ix1 r, fun i => (eq_ix1 i).symm, fun _ => rfl⟩ _ _ fun i => ?_
  exact congrArg w (eq_ix1 i)

end Reference

section Result
variable (m : (ℓ : Loc nD τ sig) → Buf (Elt Ideal) ℓ) (c : Dev nD)

/-- The first sum, at the arguments. -/
theorem topV_eq : topV (F := Ideal) m c 15 = ∑ r : Fin 4096,
    ab (dotRow (M := 4096) (m ((c : Thread nD τ).loc main_arg0)) (m ((c : Thread nD τ).loc main_arg4)) r
      + dotRow (M := 4096) (m ((c : Thread nD τ).loc main_arg1)) (m ((c : Thread nD τ).loc main_arg5)) r
      + (m ((c : Thread nD τ).loc main_arg3) : S4096.Idx → EReal) (ix1 r)) := by
  unfold topV
  rw [topAt_last]
  refine Finset.sum_congr rfl fun r _ => ?_
  unfold term
  rw [Xc_eq, Yc_eq, Cc_eq, col_row, show XQ (F := Ideal) m c = _ from V_main_arg0 m c, show XT (F := Ideal) m c = _ from V_main_arg1 m c]
  rw [add_comm (dotRow (M := 4096) (m ((c : Thread nD τ).loc main_arg0)) _ r)]

/-- The second sum, at the arguments. -/
theorem botV_eq : botV (F := Ideal) m c = ∑ r : Fin 4096, ab ((m ((c : Thread nD τ).loc main_arg3) : S4096.Idx → EReal) (ix1 r)) := by
  unfold botV
  rw [pay3_eq]
  refine Finset.sum_congr rfl fun r _ => ?_
  rw [Cc_eq, col_row]

end Result

section Formula
variable (Q T : S4096x4096.Idx → EReal) (x y : S4096x1.Idx → EReal) (v : S4096.Idx → EReal)

/-- The reference's first sum. -/
theorem ref_top (j : S_.Idx) : Host.reduceAdd (F := Ideal) (φ := .f32) (Host.absf (F := Ideal) (φ := .f32)
      (addf (F := Ideal) (φ := .f32) (addf (F := Ideal) (φ := .f32)
        (Host.dotGeneral (F := Ideal) (φ₁ := .f32) (φ₂ := .f32) Cert.ReferenceIdeal.dot_S4096x4096_S4096x1_S4096x1_1_0_0_1_n_n none Q x)
        (Host.dotGeneral (F := Ideal) (φ₁ := .f32) (φ₂ := .f32) Cert.ReferenceIdeal.dot_S4096x4096_S4096x1_S4096x1_1_0_0_1_n_n none T y))
        (broadcastInDim S4096x1 ![0] bcast_S4096_S4096x1_0 v)))
      (constant S_ .f32 0x00000000#32) Cert.ReferenceIdeal.Gen.reducesTo_S4096x1_S_d0_1 Cert.ReferenceIdeal.Gen.h_S_ j
    = ∑ r : Fin 4096, ab (dotRow Q x r + dotRow T y r + v (ix1 r)) := by
  refine (host_total2 _ _ _ _).trans (Finset.sum_congr rfl fun r _ => ?_)
  rw [← host_row Q x r, ← host_row T y r, ← col_row v r]
  rfl

/-- The reference's second sum. -/
theorem ref_bot (j : S_.Idx) : Host.reduceAdd (F := Ideal) (φ := .f32) (Host.absf (F := Ideal) (φ := .f32) v)
      (constant S_ .f32 0x00000000#32) Cert.ReferenceIdeal.Gen.reducesTo_S4096_S_d0 Cert.ReferenceIdeal.Gen.h_S_ j
    = ∑ r : Fin 4096, ab (v (ix1 r)) :=
  host_total1 _ _ _ _

end Formula

/-- The kernel's result, at the arguments, is the reference's. -/
theorem result_eq (m : (ℓ : Loc nD τ sig) → Buf (Elt Ideal) ℓ) (c : Dev nD) (Q T : S4096x4096.Idx → EReal) (x y : S4096x1.Idx → EReal)
    (v : S4096.Idx → EReal) (hQ : Q = m ((c : Thread nD τ).loc main_arg0)) (hT : T = m ((c : Thread nD τ).loc main_arg1))
    (hv : v = m ((c : Thread nD τ).loc main_arg3)) (hx : x = m ((c : Thread nD τ).loc main_arg4)) (hy : y = m ((c : Thread nD τ).loc main_arg5)) :
    Host.divf (F := Ideal) (φ := .f32)
      (Host.reduceAdd (F := Ideal) (φ := .f32) (Host.absf (F := Ideal) (φ := .f32)
        (addf (F := Ideal) (φ := .f32) (addf (F := Ideal) (φ := .f32)
          (Host.dotGeneral (F := Ideal) (φ₁ := .f32) (φ₂ := .f32) Cert.ReferenceIdeal.dot_S4096x4096_S4096x1_S4096x1_1_0_0_1_n_n none Q x)
          (Host.dotGeneral (F := Ideal) (φ₁ := .f32) (φ₂ := .f32) Cert.ReferenceIdeal.dot_S4096x4096_S4096x1_S4096x1_1_0_0_1_n_n none T y))
          (broadcastInDim S4096x1 ![0] bcast_S4096_S4096x1_0 v)))
        (constant S_ .f32 0x00000000#32) Cert.ReferenceIdeal.Gen.reducesTo_S4096x1_S_d0_1 Cert.ReferenceIdeal.Gen.h_S_)
      (addf (F := Ideal) (φ := .f32) (constant S_ .f32 0x461C4000#32)
        (Host.reduceAdd (F := Ideal) (φ := .f32) (Host.absf (F := Ideal) (φ := .f32) v)
          (constant S_ .f32 0x00000000#32) Cert.ReferenceIdeal.Gen.reducesTo_S4096_S_d0 Cert.ReferenceIdeal.Gen.h_S_))
      = result (F := Ideal) m c := by
  have e1 := funext (ref_top Q T x y v)
  have e2 := funext (ref_bot v)
  rw [e1, e2]
  unfold result
  rw [topV_eq, botV_eq, ← hQ, ← hT, ← hv, ← hx, ← hy]

end Cert.Proof.Value

end
-- ==== Proof.lean ====
module

public import proofs.«01_k».proof.Defs
public import proofs.«01_k».proof.Proof.IdealValue
public import proofs.«01_k».proof.Proof.KernelRun
public import proofs.«01_k».proof.Proof.Gen.ReferenceIdeal.Run
public import Idealize.ShloMosaic.Lib.Quiescent
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The compiled kernel runs, leaves its arguments alone, and ends with every counter at zero. -/
theorem kernel_quiescent : Cert.quiescent_Kernel (hKernel := Cert.Kernel.Gen.facts) := fun m g _ =>
  (θ_run (Cert.Kernel.defs (F := Bits)) _ _).mono (fun _ h => ⟨fun c => (h.1 c).2, h.2⟩) (Cert.Proof.Bits.run (F := Bits) m g)

/-- So does the kernel at exact arithmetic. -/
theorem ideal_quiescent : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.Proof.Ideal.run (F := Ideal) m g)

/-- So does the reference, which has no counter at all. -/
theorem reference_quiescent : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- At exact arithmetic, from equal arguments, the kernel and the reference end with equal results. -/
theorem results_equal : Cert.algebraic_KernelIdeal_ReferenceIdeal (hKernelIdeal := Cert.KernelIdeal.Gen.facts)
    (hReferenceIdeal := Cert.ReferenceIdeal.Gen.facts) := fun m g m' g' _ agree =>
  ⟨fun c => Cert.Proof.Ideal.result (F := Ideal) m c,
    (θ_run (Cert.KernelIdeal.defs (F := Ideal)) _ _).mono (fun _ h => h.1) (Cert.Proof.Ideal.run (F := Ideal) m g),
    (θ_run (Cert.ReferenceIdeal.defs (F := Ideal)) _ _).mono (fun _ h c => ⟨(h c).1.trans
        (Cert.Proof.Value.result_eq m c _ _ _ _ _ (agree c).1 (agree c).2.1 (agree c).2.2.2.1 (agree c).2.2.2.2.1 (agree c).2.2.2.2.2), (h c).2⟩)
      (Cert.ReferenceIdeal.Value.run (F := Ideal) m' g')⟩

theorem claim : Cert.Claim := ⟨Cert.Kernel.Gen.facts, Cert.KernelIdeal.Gen.facts, Cert.ReferenceIdeal.Gen.facts,
  kernel_quiescent, ideal_quiescent, reference_quiescent, trivial, results_equal⟩

end Cert.Proof

end
